-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedReferenceIdeal (m : (ℓ : Loc Cert.ClippedReferenceIdeal.nD Cert.ClippedReferenceIdeal.τ Cert.ClippedReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedReferenceIdeal [hClippedReferenceIdeal : Cert.ClippedReferenceIdeal.Facts] : Prop :=
  ∀ (m : (ℓ : Loc Cert.ClippedReferenceIdeal.nD Cert.ClippedReferenceIdeal.τ Cert.ClippedReferenceIdeal.sig) → Buf (Elt Ideal) ℓ) (g : Dev Cert.ClippedReferenceIdeal.nD → PrngReg), Pre_ClippedReferenceIdeal m →
    θ_run (Cert.ClippedReferenceIdeal.defs (F := Ideal)) (onTc (τ := Cert.ClippedReferenceIdeal.τ) (Cert.ClippedReferenceIdeal.main (F := Ideal))) ⟨m, fun _ => 0, g⟩ (fun r => (∀ c : Dev Cert.ClippedReferenceIdeal.nD,
      r.2.mem ((c.tc : Thread Cert.ClippedReferenceIdeal.nD Cert.ClippedReferenceIdeal.τ).loc Cert.ClippedReferenceIdeal.main_arg0) = m ((c.tc : Thread Cert.ClippedReferenceIdeal.nD Cert.ClippedReferenceIdeal.τ).loc Cert.ClippedReferenceIdeal.main_arg0)
      ∧ r.2.mem ((c.tc : Thread Cert.ClippedReferenceIdeal.nD Cert.ClippedReferenceIdeal.τ).loc Cert.ClippedReferenceIdeal.main_arg1) = m ((c.tc : Thread Cert.ClippedReferenceIdeal.nD Cert.ClippedReferenceIdeal.τ).loc Cert.ClippedReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedReferenceIdeal_on_within_clip [hKernelIdeal : Cert.KernelIdeal.Facts] [hClippedReferenceIdeal : Cert.ClippedReferenceIdeal.Facts] [hOn_within_clip : Cert.On_within_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedReferenceIdeal.nD Cert.ClippedReferenceIdeal.τ Cert.ClippedReferenceIdeal.sig) → Buf (Elt Ideal) ℓ) (g' : Dev Cert.ClippedReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ClippedReferenceIdeal.nD).tc : Thread Cert.ClippedReferenceIdeal.nD Cert.ClippedReferenceIdeal.τ).loc Cert.ClippedReferenceIdeal.main_arg0))
      ∧ m ((c.tc : Thread Cert.KernelIdeal.nD Cert.KernelIdeal.τ).loc Cert.KernelIdeal.main_arg1) = m' (((0 : Dev Cert.ClippedReferenceIdeal.nD).tc : Thread Cert.ClippedReferenceIdeal.nD Cert.ClippedReferenceIdeal.τ).loc Cert.ClippedReferenceIdeal.main_arg1)) →
    ∃ (v0 : Buf (Elt Ideal) (((0 : Dev Cert.ClippedReferenceIdeal.nD).tc : Thread Cert.ClippedReferenceIdeal.nD Cert.ClippedReferenceIdeal.τ).loc Cert.ClippedReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 2048]⟩ : Shape).Idx, (Layout.block ⟨2, ![256, 2048]⟩ ⟨2, ![4096, 2048]⟩ 0 16 c ((Cert.On_within_clip.fn (F := Ideal) (m' (((0 : Dev Cert.ClippedReferenceIdeal.nD).tc : Thread Cert.ClippedReferenceIdeal.nD Cert.ClippedReferenceIdeal.τ).loc Cert.ClippedReferenceIdeal.main_arg0)) (m' (((0 : Dev Cert.ClippedReferenceIdeal.nD).tc : Thread Cert.ClippedReferenceIdeal.nD Cert.ClippedReferenceIdeal.τ).loc Cert.ClippedReferenceIdeal.main_arg1)))) : (⟨2, ![256, 2048]⟩ : Shape).Idx → _) i = 1#1 → r.2.mem ((c.tc : Thread Cert.KernelIdeal.nD Cert.KernelIdeal.τ).loc Cert.KernelIdeal.main_v1) i = (Layout.block ⟨2, ![256, 2048]⟩ ⟨2, ![4096, 2048]⟩ 0 16 c v0 : (⟨2, ![256, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedReferenceIdeal.defs (F := Ideal)) (onTc (τ := Cert.ClippedReferenceIdeal.τ) (Cert.ClippedReferenceIdeal.main (F := Ideal))) ⟨m', fun _ => 0, g'⟩ (fun r =>
          (∀ i : (⟨2, ![4096, 2048]⟩ : Shape).Idx, (Cert.On_within_clip.fn (F := Ideal) (m' (((0 : Dev Cert.ClippedReferenceIdeal.nD).tc : Thread Cert.ClippedReferenceIdeal.nD Cert.ClippedReferenceIdeal.τ).loc Cert.ClippedReferenceIdeal.main_arg0)) (m' (((0 : Dev Cert.ClippedReferenceIdeal.nD).tc : Thread Cert.ClippedReferenceIdeal.nD Cert.ClippedReferenceIdeal.τ).loc Cert.ClippedReferenceIdeal.main_arg1))) i = 1#1 → r.2.mem (((0 : Dev Cert.ClippedReferenceIdeal.nD).tc : Thread Cert.ClippedReferenceIdeal.nD Cert.ClippedReferenceIdeal.τ).loc Cert.ClippedReferenceIdeal.main_v6) i = v0 i)
          ∧ r.2.mem (((0 : Dev Cert.ClippedReferenceIdeal.nD).tc : Thread Cert.ClippedReferenceIdeal.nD Cert.ClippedReferenceIdeal.τ).loc Cert.ClippedReferenceIdeal.main_arg0) = m' (((0 : Dev Cert.ClippedReferenceIdeal.nD).tc : Thread Cert.ClippedReferenceIdeal.nD Cert.ClippedReferenceIdeal.τ).loc Cert.ClippedReferenceIdeal.main_arg0)
          ∧ r.2.mem (((0 : Dev Cert.ClippedReferenceIdeal.nD).tc : Thread Cert.ClippedReferenceIdeal.nD Cert.ClippedReferenceIdeal.τ).loc Cert.ClippedReferenceIdeal.main_arg1) = m' (((0 : Dev Cert.ClippedReferenceIdeal.nD).tc : Thread Cert.ClippedReferenceIdeal.nD Cert.ClippedReferenceIdeal.τ).loc Cert.ClippedReferenceIdeal.main_arg1))

def Claim : Prop :=
  ∃ (hKernel : Cert.Kernel.Facts) (hKernelIdeal : Cert.KernelIdeal.Facts) (hReferenceIdeal : Cert.ReferenceIdeal.Facts) (hClippedReferenceIdeal : Cert.ClippedReferenceIdeal.Facts) (hOn_within_clip : Cert.On_within_clip.Facts),
    quiescent_Kernel (hKernel := hKernel)
    ∧ quiescent_KernelIdeal (hKernelIdeal := hKernelIdeal)
    ∧ quiescent_ReferenceIdeal (hReferenceIdeal := hReferenceIdeal)
    ∧ quiescent_ClippedReferenceIdeal (hClippedReferenceIdeal := hClippedReferenceIdeal)
    ∧ preserves_Kernel_KernelIdeal
    ∧ algebraic_KernelIdeal_ReferenceIdeal (hKernelIdeal := hKernelIdeal) (hReferenceIdeal := hReferenceIdeal)
    ∧ algebraic_KernelIdeal_ClippedReferenceIdeal_on_within_clip (hKernelIdeal := hKernelIdeal) (hClippedReferenceIdeal := hClippedReferenceIdeal) (hOn_within_clip := hOn_within_clip)
-- ==== On_within_clip.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S4096x2048 1 :=
  let main_v0 : FVec F S4096x2048 .f32 := (fun l r => Host.dotGeneral dot_S4096x4096_S4096x2048_S4096x2048_1_0_0_1_n_n none l r) main_arg0 main_arg1
  let main_cst : FVec F S_ .f32 := constant S_ .f32 0xC2700000#32
  let main_v1 : FVec F S4096x2048 .f32 := broadcastInDim S4096x2048 ![] bcast_S_S4096x2048 main_cst
  let main_v2 : IVec S4096x2048 1 := cmpf .oge main_v0 main_v1
  let main_cst_0 : FVec F S_ .f32 := constant S_ .f32 0x42700000#32
  let main_v3 : FVec F S4096x2048 .f32 := broadcastInDim S4096x2048 ![] bcast_S_S4096x2048 main_cst_0
  let main_v4 : IVec S4096x2048 1 := cmpf .ole main_v0 main_v3
  let main_v5 : IVec S4096x2048 1 := andi main_v2 main_v4
  main_v5
-- ==== Kernel.lean ====
abbrev S4096x256 : Shape := ⟨2, ![4096, 256]⟩
abbrev S4096x2048 : Shape := ⟨2, ![4096, 2048]⟩
abbrev S256x2048 : Shape := ⟨2, ![256, 2048]⟩
abbrev S256x4096 : Shape := ⟨2, ![256, 4096]⟩
abbrev S16 : Shape := ⟨1, ![16]⟩
abbrev S_ : Shape := ⟨0, ![]⟩
abbrev S256x256 : Shape := ⟨2, ![256, 256]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S256x2048, .f32⟩
  | .local _ .vmem, ⟨0, _⟩ => ⟨S4096x256, .f32⟩
  | .local _ .vmem, ⟨1, _⟩ => ⟨S256x2048, .f32⟩
  | .local _ .vmem, ⟨2, _⟩ => ⟨S4096x256, .bf16⟩
  | .local _ .vmem, ⟨3, _⟩ => ⟨S256x4096, .bf16⟩
  | .local _ .vmem, ⟨4, _⟩ => ⟨S4096x2048, .f32⟩
  | .local _ .vmem, ⟨5, _⟩ => ⟨S4096x2048, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v9 : BitVec 32 := Scalar.muli v2 c256_i32
  let v10 : Index := Scalar.indexCast v9
  let c0_3 : Index := 0#32
  ![v10.toNat, 0]
def k0_off2 (d0 : Dev nD) : Fin 2 → Nat :=
  let c0_5 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_4 : BitVec 32 := 256#32
  let v12 : BitVec 32 := Scalar.muli v2 c256_i32_4
  let v13 : Index := Scalar.indexCast v12
  ![0, v13.toNat]
def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v18 : BitVec 32 := Scalar.addi v2 c1_i32_6
  let c16_i32_7 : BitVec 32 := 16#32
  let c0_i32 : BitVec 32 := 0#32
  let v19 : BitVec 1 := Scalar.cmpi .eq c16_i32_7 c0_i32
  let c1_i32_8 : BitVec 32 := 1#32
  let v20 : BitVec 32 := Scalar.select v19 c1_i32_8 c16_i32_7
  let v21 : BitVec 32 := Scalar.remsi v18 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c1_i32_13 : BitVec 32 := 1#32
  let v29 : BitVec 32 := Scalar.muli v28 c1_i32_13
  let v30 : BitVec 32 := Scalar.addi c0_i32_14 v29
  v30.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v31 : BitVec 32 := Scalar.addi v2 c2_i32
  let c16_i32_15 : BitVec 32 := 16#32
  let c0_i32_16 : BitVec 32 := 0#32
  let v32 : BitVec 1 := Scalar.cmpi .eq c16_i32_15 c0_i32_16
  let c1_i32_17 : BitVec 32 := 1#32
  let v33 : BitVec 32 := Scalar.select v32 c1_i32_17 c16_i32_15
  let v34 : BitVec 32 := Scalar.remsi v31 v33
  let c0_i32_19 : BitVec 32 := 0#32
  let v36 : BitVec 1 := Scalar.cmpi .slt v34 c0_i32_19
  let c0_i32_20 : BitVec 32 := 0#32
  let v37 : BitVec 1 := Scalar.cmpi .slt v33 c0_i32_20
  let v38 : BitVec 1 := Scalar.xori v36 v37
  let c0_i32_18 : BitVec 32 := 0#32
  let v35 : BitVec 1 := Scalar.cmpi .ne v34 c0_i32_18
  let v39 : BitVec 1 := Scalar.andi v38 v35
  let v40 : BitVec 32 := Scalar.addi v34 v33
  let v41 : BitVec 32 := Scalar.select v39 v40 v34
  let c1_i32_22 : BitVec 32 := 1#32
  let v42 : BitVec 32 := Scalar.muli v41 c1_i32_22
  let v43 : BitVec 32 := Scalar.addi c0_i32_23 v42
  v43.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v44 : BitVec 32 := Scalar.addi v2 c3_i32
  let c16_i32_24 : BitVec 32 := 16#32
  let c0_i32_25 : BitVec 32 := 0#32
  let v45 : BitVec 1 := Scalar.cmpi .eq c16_i32_24 c0_i32_25
  let c1_i32_26 : BitVec 32 := 1#32
  let v46 : BitVec 32 := Scalar.select v45 c1_i32_26 c16_i32_24
  let v47 : BitVec 32 := Scalar.remsi v44 v46
  let c0_i32_28 : BitVec 32 := 0#32
  let v49 : BitVec 1 := Scalar.cmpi .slt v47 c0_i32_28
  let c0_i32_29 : BitVec 32 := 0#32
  let v50 : BitVec 1 := Scalar.cmpi .slt v46 c0_i32_29
  let v51 : BitVec 1 := Scalar.xori v49 v50
  let c0_i32_27 : BitVec 32 := 0#32
  let v48 : BitVec 1 := Scalar.cmpi .ne v47 c0_i32_27
  let v52 : BitVec 1 := Scalar.andi v51 v48
  let v53 : BitVec 32 := Scalar.addi v47 v46
  let v54 : BitVec 32 := Scalar.select v52 v53 v47
  let c1_i32_31 : BitVec 32 := 1#32
  let v55 : BitVec 32 := Scalar.muli v54 c1_i32_31
  let v56 : BitVec 32 := Scalar.addi c0_i32_32 v55
  v56.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v57 : BitVec 32 := Scalar.addi v2 c4_i32
  let c16_i32_33 : BitVec 32 := 16#32
  let c0_i32_34 : BitVec 32 := 0#32
  let v58 : BitVec 1 := Scalar.cmpi .eq c16_i32_33 c0_i32_34
  let c1_i32_35 : BitVec 32 := 1#32
  let v59 : BitVec 32 := Scalar.select v58 c1_i32_35 c16_i32_33
  let v60 : BitVec 32 := Scalar.remsi v57 v59
  let c0_i32_37 : BitVec 32 := 0#32
  let v62 : BitVec 1 := Scalar.cmpi .slt v60 c0_i32_37
  let c0_i32_38 : BitVec 32 := 0#32
  let v63 : BitVec 1 := Scalar.cmpi .slt v59 c0_i32_38
  let v64 : BitVec 1 := Scalar.xori v62 v63
  let c0_i32_36 : BitVec 32 := 0#32
  let v61 : BitVec 1 := Scalar.cmpi .ne v60 c0_i32_36
  let v65 : BitVec 1 := Scalar.andi v64 v61
  let v66 : BitVec 32 := Scalar.addi v60 v59
  let v67 : BitVec 32 := Scalar.select v65 v66 v60
  let c1_i32_40 : BitVec 32 := 1#32
  let v68 : BitVec 32 := Scalar.muli v67 c1_i32_40
  let v69 : BitVec 32 := Scalar.addi c0_i32_41 v68
  v69.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v70 : BitVec 32 := Scalar.addi v2 c5_i32
  let c16_i32_42 : BitVec 32 := 16#32
  let c0_i32_43 : BitVec 32 := 0#32
  let v71 : BitVec 1 := Scalar.cmpi .eq c16_i32_42 c0_i32_43
  let c1_i32_44 : BitVec 32 := 1#32
  let v72 : BitVec 32 := Scalar.select v71 c1_i32_44 c16_i32_42
  let v73 : BitVec 32 := Scalar.remsi v70 v72
  let c0_i32_46 : BitVec 32 := 0#32
  let v75 : BitVec 1 := Scalar.cmpi .slt v73 c0_i32_46
  let c0_i32_47 : BitVec 32 := 0#32
  let v76 : BitVec 1 := Scalar.cmpi .slt v72 c0_i32_47
  let v77 : BitVec 1 := Scalar.xori v75 v76
  let c0_i32_45 : BitVec 32 := 0#32
  let v74 : BitVec 1 := Scalar.cmpi .ne v73 c0_i32_45
  let v78 : BitVec 1 := Scalar.andi v77 v74
  let v79 : BitVec 32 := Scalar.addi v73 v72
  let v80 : BitVec 32 := Scalar.select v78 v79 v73
  let c1_i32_49 : BitVec 32 := 1#32
  let v81 : BitVec 32 := Scalar.muli v80 c1_i32_49
  let v82 : BitVec 32 := Scalar.addi c0_i32_50 v81
  v82.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v83 : BitVec 32 := Scalar.addi v2 c6_i32
  let c16_i32_51 : BitVec 32 := 16#32
  let c0_i32_52 : BitVec 32 := 0#32
  let v84 : BitVec 1 := Scalar.cmpi .eq c16_i32_51 c0_i32_52
  let c1_i32_53 : BitVec 32 := 1#32
  let v85 : BitVec 32 := Scalar.select v84 c1_i32_53 c16_i32_51
  let v86 : BitVec 32 := Scalar.remsi v83 v85
  let c0_i32_55 : BitVec 32 := 0#32
  let v88 : BitVec 1 := Scalar.cmpi .slt v86 c0_i32_55
  let c0_i32_56 : BitVec 32 := 0#32
  let v89 : BitVec 1 := Scalar.cmpi .slt v85 c0_i32_56
  let v90 : BitVec 1 := Scalar.xori v88 v89
  let c0_i32_54 : BitVec 32 := 0#32
  let v87 : BitVec 1 := Scalar.cmpi .ne v86 c0_i32_54
  let v91 : BitVec 1 := Scalar.andi v90 v87
  let v92 : BitVec 32 := Scalar.addi v86 v85
  let v93 : BitVec 32 := Scalar.select v91 v92 v86
  let c1_i32_58 : BitVec 32 := 1#32
  let v94 : BitVec 32 := Scalar.muli v93 c1_i32_58
  let v95 : BitVec 32 := Scalar.addi c0_i32_59 v94
  v95.toNat
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v96 : BitVec 32 := Scalar.addi v2 c7_i32
  let c16_i32_60 : BitVec 32 := 16#32
  let c0_i32_61 : BitVec 32 := 0#32
  let v97 : BitVec 1 := Scalar.cmpi .eq c16_i32_60 c0_i32_61
  let c1_i32_62 : BitVec 32 := 1#32
  let v98 : BitVec 32 := Scalar.select v97 c1_i32_62 c16_i32_60
  let v99 : BitVec 32 := Scalar.remsi v96 v98
  let c0_i32_64 : BitVec 32 := 0#32
  let v101 : BitVec 1 := Scalar.cmpi .slt v99 c0_i32_64
  let c0_i32_65 : BitVec 32 := 0#32
  let v102 : BitVec 1 := Scalar.cmpi .slt v98 c0_i32_65
  let v103 : BitVec 1 := Scalar.xori v101 v102
  let c0_i32_63 : BitVec 32 := 0#32
  let v100 : BitVec 1 := Scalar.cmpi .ne v99 c0_i32_63
  let v104 : BitVec 1 := Scalar.andi v103 v100
  let v105 : BitVec 32 := Scalar.addi v99 v98
  let v106 : BitVec 32 := Scalar.select v104 v105 v99
  let c1_i32_67 : BitVec 32 := 1#32
  let v107 : BitVec 32 := Scalar.muli v106 c1_i32_67
  let v108 : BitVec 32 := Scalar.addi c0_i32_68 v107
  v108.toNat
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v109 : BitVec 32 := Scalar.addi v2 c8_i32
  let c16_i32_69 : BitVec 32 := 16#32
  let c0_i32_70 : BitVec 32 := 0#32
  let v110 : BitVec 1 := Scalar.cmpi .eq c16_i32_69 c0_i32_70
  let c1_i32_71 : BitVec 32 := 1#32
  let v111 : BitVec 32 := Scalar.select v110 c1_i32_71 c16_i32_69
  let v112 : BitVec 32 := Scalar.remsi v109 v111
  let c0_i32_73 : BitVec 32 := 0#32
  let v114 : BitVec 1 := Scalar.cmpi .slt v112 c0_i32_73
  let c0_i32_74 : BitVec 32 := 0#32
  let v115 : BitVec 1 := Scalar.cmpi .slt v111 c0_i32_74
  let v116 : BitVec 1 := Scalar.xori v114 v115
  let c0_i32_72 : BitVec 32 := 0#32
  let v113 : BitVec 1 := Scalar.cmpi .ne v112 c0_i32_72
  let v117 : BitVec 1 := Scalar.andi v116 v113
  let v118 : BitVec 32 := Scalar.addi v112 v111
  let v119 : BitVec 32 := Scalar.select v117 v118 v112
  let c1_i32_76 : BitVec 32 := 1#32
  let v120 : BitVec 32 := Scalar.muli v119 c1_i32_76
  let v121 : BitVec 32 := Scalar.addi c0_i32_77 v120
  v121.toNat
def k0_dev9 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v122 : BitVec 32 := Scalar.addi v2 c9_i32
  let c16_i32_78 : BitVec 32 := 16#32
  let c0_i32_79 : BitVec 32 := 0#32
  let v123 : BitVec 1 := Scalar.cmpi .eq c16_i32_78 c0_i32_79
  let c1_i32_80 : BitVec 32 := 1#32
  let v124 : BitVec 32 := Scalar.select v123 c1_i32_80 c16_i32_78
  let v125 : BitVec 32 := Scalar.remsi v122 v124
  let c0_i32_82 : BitVec 32 := 0#32
  let v127 : BitVec 1 := Scalar.cmpi .slt v125 c0_i32_82
  let c0_i32_83 : BitVec 32 := 0#32
  let v128 : BitVec 1 := Scalar.cmpi .slt v124 c0_i32_83
  let v129 : BitVec 1 := Scalar.xori v127 v128
  let c0_i32_81 : BitVec 32 := 0#32
  let v126 : BitVec 1 := Scalar.cmpi .ne v125 c0_i32_81
  let v130 : BitVec 1 := Scalar.andi v129 v126
  let v131 : BitVec 32 := Scalar.addi v125 v124
  let v132 : BitVec 32 := Scalar.select v130 v131 v125
  let c1_i32_85 : BitVec 32 := 1#32
  let v133 : BitVec 32 := Scalar.muli v132 c1_i32_85
  let v134 : BitVec 32 := Scalar.addi c0_i32_86 v133
  v134.toNat
def k0_dev10 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v135 : BitVec 32 := Scalar.addi v2 c10_i32
  let c16_i32_87 : BitVec 32 := 16#32
  let c0_i32_88 : BitVec 32 := 0#32
  let v136 : BitVec 1 := Scalar.cmpi .eq c16_i32_87 c0_i32_88
  let c1_i32_89 : BitVec 32 := 1#32
  let v137 : BitVec 32 := Scalar.select v136 c1_i32_89 c16_i32_87
  let v138 : BitVec 32 := Scalar.remsi v135 v137
  let c0_i32_91 : BitVec 32 := 0#32
  let v140 : BitVec 1 := Scalar.cmpi .slt v138 c0_i32_91
  let c0_i32_92 : BitVec 32 := 0#32
  let v141 : BitVec 1 := Scalar.cmpi .slt v137 c0_i32_92
  let v142 : BitVec 1 := Scalar.xori v140 v141
  let c0_i32_90 : BitVec 32 := 0#32
  let v139 : BitVec 1 := Scalar.cmpi .ne v138 c0_i32_90
  let v143 : BitVec 1 := Scalar.andi v142 v139
  let v144 : BitVec 32 := Scalar.addi v138 v137
  let v145 : BitVec 32 := Scalar.select v143 v144 v138
  let c1_i32_94 : BitVec 32 := 1#32
  let v146 : BitVec 32 := Scalar.muli v145 c1_i32_94
  let v147 : BitVec 32 := Scalar.addi c0_i32_95 v146
  v147.toNat
def k0_dev11 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v148 : BitVec 32 := Scalar.addi v2 c11_i32
  let c16_i32_96 : BitVec 32 := 16#32
  let c0_i32_97 : BitVec 32 := 0#32
  let v149 : BitVec 1 := Scalar.cmpi .eq c16_i32_96 c0_i32_97
  let c1_i32_98 : BitVec 32 := 1#32
  let v150 : BitVec 32 := Scalar.select v149 c1_i32_98 c16_i32_96
  let v151 : BitVec 32 := Scalar.remsi v148 v150
  let c0_i32_100 : BitVec 32 := 0#32
  let v153 : BitVec 1 := Scalar.cmpi .slt v151 c0_i32_100
  let c0_i32_101 : BitVec 32 := 0#32
  let v154 : BitVec 1 := Scalar.cmpi .slt v150 c0_i32_101
  let v155 : BitVec 1 := Scalar.xori v153 v154
  let c0_i32_99 : BitVec 32 := 0#32
  let v152 : BitVec 1 := Scalar.cmpi .ne v151 c0_i32_99
  let v156 : BitVec 1 := Scalar.andi v155 v152
  let v157 : BitVec 32 := Scalar.addi v151 v150
  let v158 : BitVec 32 := Scalar.select v156 v157 v151
  let c1_i32_103 : BitVec 32 := 1#32
  let v159 : BitVec 32 := Scalar.muli v158 c1_i32_103
  let v160 : BitVec 32 := Scalar.addi c0_i32_104 v159
  v160.toNat
def k0_dev12 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v161 : BitVec 32 := Scalar.addi v2 c12_i32
  let c16_i32_105 : BitVec 32 := 16#32
  let c0_i32_106 : BitVec 32 := 0#32
  let v162 : BitVec 1 := Scalar.cmpi .eq c16_i32_105 c0_i32_106
  let c1_i32_107 : BitVec 32 := 1#32
  let v163 : BitVec 32 := Scalar.select v162 c1_i32_107 c16_i32_105
  let v164 : BitVec 32 := Scalar.remsi v161 v163
  let c0_i32_109 : BitVec 32 := 0#32
  let v166 : BitVec 1 := Scalar.cmpi .slt v164 c0_i32_109
  let c0_i32_110 : BitVec 32 := 0#32
  let v167 : BitVec 1 := Scalar.cmpi .slt v163 c0_i32_110
  let v168 : BitVec 1 := Scalar.xori v166 v167
  let c0_i32_108 : BitVec 32 := 0#32
  let v165 : BitVec 1 := Scalar.cmpi .ne v164 c0_i32_108
  let v169 : BitVec 1 := Scalar.andi v168 v165
  let v170 : BitVec 32 := Scalar.addi v164 v163
  let v171 : BitVec 32 := Scalar.select v169 v170 v164
  let c1_i32_112 : BitVec 32 := 1#32
  let v172 : BitVec 32 := Scalar.muli v171 c1_i32_112
  let v173 : BitVec 32 := Scalar.addi c0_i32_113 v172
  v173.toNat
def k0_dev13 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v174 : BitVec 32 := Scalar.addi v2 c13_i32
  let c16_i32_114 : BitVec 32 := 16#32
  let c0_i32_115 : BitVec 32 := 0#32
  let v175 : BitVec 1 := Scalar.cmpi .eq c16_i32_114 c0_i32_115
  let c1_i32_116 : BitVec 32 := 1#32
  let v176 : BitVec 32 := Scalar.select v175 c1_i32_116 c16_i32_114
  let v177 : BitVec 32 := Scalar.remsi v174 v176
  let c0_i32_118 : BitVec 32 := 0#32
  let v179 : BitVec 1 := Scalar.cmpi .slt v177 c0_i32_118
  let c0_i32_119 : BitVec 32 := 0#32
  let v180 : BitVec 1 := Scalar.cmpi .slt v176 c0_i32_119
  let v181 : BitVec 1 := Scalar.xori v179 v180
  let c0_i32_117 : BitVec 32 := 0#32
  let v178 : BitVec 1 := Scalar.cmpi .ne v177 c0_i32_117
  let v182 : BitVec 1 := Scalar.andi v181 v178
  let v183 : BitVec 32 := Scalar.addi v177 v176
  let v184 : BitVec 32 := Scalar.select v182 v183 v177
  let c1_i32_121 : BitVec 32 := 1#32
  let v185 : BitVec 32 := Scalar.muli v184 c1_i32_121
  let v186 : BitVec 32 := Scalar.addi c0_i32_122 v185
  v186.toNat
def k0_dev14 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v187 : BitVec 32 := Scalar.addi v2 c14_i32
  let c16_i32_123 : BitVec 32 := 16#32
  let c0_i32_124 : BitVec 32 := 0#32
  let v188 : BitVec 1 := Scalar.cmpi .eq c16_i32_123 c0_i32_124
  let c1_i32_125 : BitVec 32 := 1#32
  let v189 : BitVec 32 := Scalar.select v188 c1_i32_125 c16_i32_123
  let v190 : BitVec 32 := Scalar.remsi v187 v189
  let c0_i32_127 : BitVec 32 := 0#32
  let v192 : BitVec 1 := Scalar.cmpi .slt v190 c0_i32_127
  let c0_i32_128 : BitVec 32 := 0#32
  let v193 : BitVec 1 := Scalar.cmpi .slt v189 c0_i32_128
  let v194 : BitVec 1 := Scalar.xori v192 v193
  let c0_i32_126 : BitVec 32 := 0#32
  let v191 : BitVec 1 := Scalar.cmpi .ne v190 c0_i32_126
  let v195 : BitVec 1 := Scalar.andi v194 v191
  let v196 : BitVec 32 := Scalar.addi v190 v189
  let v197 : BitVec 32 := Scalar.select v195 v196 v190
  let c1_i32_130 : BitVec 32 := 1#32
  let v198 : BitVec 32 := Scalar.muli v197 c1_i32_130
  let v199 : BitVec 32 := Scalar.addi c0_i32_131 v198
  v199.toNat
def k0_dev15 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v200 : BitVec 32 := Scalar.addi v2 c15_i32
  let c16_i32_132 : BitVec 32 := 16#32
  let c0_i32_133 : BitVec 32 := 0#32
  let v201 : BitVec 1 := Scalar.cmpi .eq c16_i32_132 c0_i32_133
  let c1_i32_134 : BitVec 32 := 1#32
  let v202 : BitVec 32 := Scalar.select v201 c1_i32_134 c16_i32_132
  let v203 : BitVec 32 := Scalar.remsi v200 v202
  let c0_i32_136 : BitVec 32 := 0#32
  let v205 : BitVec 1 := Scalar.cmpi .slt v203 c0_i32_136
  let c0_i32_137 : BitVec 32 := 0#32
  let v206 : BitVec 1 := Scalar.cmpi .slt v202 c0_i32_137
  let v207 : BitVec 1 := Scalar.xori v205 v206
  let c0_i32_135 : BitVec 32 := 0#32
  let v204 : BitVec 1 := Scalar.cmpi .ne v203 c0_i32_135
  let v208 : BitVec 1 := Scalar.andi v207 v204
  let v209 : BitVec 32 := Scalar.addi v203 v202
  let v210 : BitVec 32 := Scalar.select v208 v209 v203
  let c1_i32_139 : BitVec 32 := 1#32
  let v211 : BitVec 32 := Scalar.muli v210 c1_i32_139
  let v212 : BitVec 32 := Scalar.addi c0_i32_140 v211
  v212.toNat
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_150 : BitVec 32 := 256#32
  let v225 : BitVec 32 := Scalar.muli v2 c256_i32_150
  ![0, v225.toNat]
def k0_off5 (d0 : Dev nD) (c1_i32_142 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v213 : BitVec 32 := Scalar.addi v2 c1_i32_142
  let c16_i32_143 : BitVec 32 := 16#32
  let c0_i32_144 : BitVec 32 := 0#32
  let v214 : BitVec 1 := Scalar.cmpi .eq c16_i32_143 c0_i32_144
  let c1_i32_145 : BitVec 32 := 1#32
  let v215 : BitVec 32 := Scalar.select v214 c1_i32_145 c16_i32_143
  let v216 : BitVec 32 := Scalar.remsi v213 v215
  let c0_i32_147 : BitVec 32 := 0#32
  let v218 : BitVec 1 := Scalar.cmpi .slt v216 c0_i32_147
  let c0_i32_148 : BitVec 32 := 0#32
  let v219 : BitVec 1 := Scalar.cmpi .slt v215 c0_i32_148
  let v220 : BitVec 1 := Scalar.xori v218 v219
  let c0_i32_146 : BitVec 32 := 0#32
  let v217 : BitVec 1 := Scalar.cmpi .ne v216 c0_i32_146
  let v221 : BitVec 1 := Scalar.andi v220 v217
  let v222 : BitVec 32 := Scalar.addi v216 v215
  let v223 : BitVec 32 := Scalar.select v221 v222 v216
  let c256_i32_149 : BitVec 32 := 256#32
  let v224 : BitVec 32 := Scalar.muli v223 c256_i32_149
  let c0_i32_155 : BitVec 32 := 0#32
  ![v224.toNat, 0]
def k0_dev16 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_142 : BitVec 32 := 1#32
  let v213 : BitVec 32 := Scalar.addi v2 c1_i32_142
  let c16_i32_143 : BitVec 32 := 16#32
  let c0_i32_144 : BitVec 32 := 0#32
  let v214 : BitVec 1 := Scalar.cmpi .eq c16_i32_143 c0_i32_144
  let c1_i32_145 : BitVec 32 := 1#32
  let v215 : BitVec 32 := Scalar.select v214 c1_i32_145 c16_i32_143
  let v216 : BitVec 32 := Scalar.remsi v213 v215
  let c0_i32_147 : BitVec 32 := 0#32
  let v218 : BitVec 1 := Scalar.cmpi .slt v216 c0_i32_147
  let c0_i32_148 : BitVec 32 := 0#32
  let v219 : BitVec 1 := Scalar.cmpi .slt v215 c0_i32_148
  let v220 : BitVec 1 := Scalar.xori v218 v219
  let c0_i32_146 : BitVec 32 := 0#32
  let v217 : BitVec 1 := Scalar.cmpi .ne v216 c0_i32_146
  let v221 : BitVec 1 := Scalar.andi v220 v217
  let v222 : BitVec 32 := Scalar.addi v216 v215
  let v223 : BitVec 32 := Scalar.select v221 v222 v216
  let c1_i32_152 : BitVec 32 := 1#32
  let v226 : BitVec 32 := Scalar.muli v223 c1_i32_152
  let v227 : BitVec 32 := Scalar.addi c0_i32_153 v226
  v227.toNat
def k0_dev17 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_156 : BitVec 32 := 2#32
  let v234 : BitVec 32 := Scalar.addi v2 c2_i32_156
  let c16_i32_157 : BitVec 32 := 16#32
  let c0_i32_158 : BitVec 32 := 0#32
  let v235 : BitVec 1 := Scalar.cmpi .eq c16_i32_157 c0_i32_158
  let c1_i32_159 : BitVec 32 := 1#32
  let v236 : BitVec 32 := Scalar.select v235 c1_i32_159 c16_i32_157
  let v237 : BitVec 32 := Scalar.remsi v234 v236
  let c0_i32_161 : BitVec 32 := 0#32
  let v239 : BitVec 1 := Scalar.cmpi .slt v237 c0_i32_161
  let c0_i32_162 : BitVec 32 := 0#32
  let v240 : BitVec 1 := Scalar.cmpi .slt v236 c0_i32_162
  let v241 : BitVec 1 := Scalar.xori v239 v240
  let c0_i32_160 : BitVec 32 := 0#32
  let v238 : BitVec 1 := Scalar.cmpi .ne v237 c0_i32_160
  let v242 : BitVec 1 := Scalar.andi v241 v238
  let v243 : BitVec 32 := Scalar.addi v237 v236
  let v244 : BitVec 32 := Scalar.select v242 v243 v237
  let c1_i32_166 : BitVec 32 := 1#32
  let v247 : BitVec 32 := Scalar.muli v244 c1_i32_166
  let v248 : BitVec 32 := Scalar.addi c0_i32_167 v247
  v248.toNat
def k0_dev18 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_170 : BitVec 32 := 3#32
  let v255 : BitVec 32 := Scalar.addi v2 c3_i32_170
  let c16_i32_171 : BitVec 32 := 16#32
  let c0_i32_172 : BitVec 32 := 0#32
  let v256 : BitVec 1 := Scalar.cmpi .eq c16_i32_171 c0_i32_172
  let c1_i32_173 : BitVec 32 := 1#32
  let v257 : BitVec 32 := Scalar.select v256 c1_i32_173 c16_i32_171
  let v258 : BitVec 32 := Scalar.remsi v255 v257
  let c0_i32_175 : BitVec 32 := 0#32
  let v260 : BitVec 1 := Scalar.cmpi .slt v258 c0_i32_175
  let c0_i32_176 : BitVec 32 := 0#32
  let v261 : BitVec 1 := Scalar.cmpi .slt v257 c0_i32_176
  let v262 : BitVec 1 := Scalar.xori v260 v261
  let c0_i32_174 : BitVec 32 := 0#32
  let v259 : BitVec 1 := Scalar.cmpi .ne v258 c0_i32_174
  let v263 : BitVec 1 := Scalar.andi v262 v259
  let v264 : BitVec 32 := Scalar.addi v258 v257
  let v265 : BitVec 32 := Scalar.select v263 v264 v258
  let c1_i32_180 : BitVec 32 := 1#32
  let v268 : BitVec 32 := Scalar.muli v265 c1_i32_180
  let v269 : BitVec 32 := Scalar.addi c0_i32_181 v268
  v269.toNat
def k0_dev19 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_184 : BitVec 32 := 4#32
  let v276 : BitVec 32 := Scalar.addi v2 c4_i32_184
  let c16_i32_185 : BitVec 32 := 16#32
  let c0_i32_186 : BitVec 32 := 0#32
  let v277 : BitVec 1 := Scalar.cmpi .eq c16_i32_185 c0_i32_186
  let c1_i32_187 : BitVec 32 := 1#32
  let v278 : BitVec 32 := Scalar.select v277 c1_i32_187 c16_i32_185
  let v279 : BitVec 32 := Scalar.remsi v276 v278
  let c0_i32_189 : BitVec 32 := 0#32
  let v281 : BitVec 1 := Scalar.cmpi .slt v279 c0_i32_189
  let c0_i32_190 : BitVec 32 := 0#32
  let v282 : BitVec 1 := Scalar.cmpi .slt v278 c0_i32_190
  let v283 : BitVec 1 := Scalar.xori v281 v282
  let c0_i32_188 : BitVec 32 := 0#32
  let v280 : BitVec 1 := Scalar.cmpi .ne v279 c0_i32_188
  let v284 : BitVec 1 := Scalar.andi v283 v280
  let v285 : BitVec 32 := Scalar.addi v279 v278
  let v286 : BitVec 32 := Scalar.select v284 v285 v279
  let c1_i32_194 : BitVec 32 := 1#32
  let v289 : BitVec 32 := Scalar.muli v286 c1_i32_194
  let v290 : BitVec 32 := Scalar.addi c0_i32_195 v289
  v290.toNat
def k0_dev20 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_198 : BitVec 32 := 5#32
  let v297 : BitVec 32 := Scalar.addi v2 c5_i32_198
  let c16_i32_199 : BitVec 32 := 16#32
  let c0_i32_200 : BitVec 32 := 0#32
  let v298 : BitVec 1 := Scalar.cmpi .eq c16_i32_199 c0_i32_200
  let c1_i32_201 : BitVec 32 := 1#32
  let v299 : BitVec 32 := Scalar.select v298 c1_i32_201 c16_i32_199
  let v300 : BitVec 32 := Scalar.remsi v297 v299
  let c0_i32_203 : BitVec 32 := 0#32
  let v302 : BitVec 1 := Scalar.cmpi .slt v300 c0_i32_203
  let c0_i32_204 : BitVec 32 := 0#32
  let v303 : BitVec 1 := Scalar.cmpi .slt v299 c0_i32_204
  let v304 : BitVec 1 := Scalar.xori v302 v303
  let c0_i32_202 : BitVec 32 := 0#32
  let v301 : BitVec 1 := Scalar.cmpi .ne v300 c0_i32_202
  let v305 : BitVec 1 := Scalar.andi v304 v301
  let v306 : BitVec 32 := Scalar.addi v300 v299
  let v307 : BitVec 32 := Scalar.select v305 v306 v300
  let c1_i32_208 : BitVec 32 := 1#32
  let v310 : BitVec 32 := Scalar.muli v307 c1_i32_208
  let v311 : BitVec 32 := Scalar.addi c0_i32_209 v310
  v311.toNat
def k0_dev21 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_212 : BitVec 32 := 6#32
  let v318 : BitVec 32 := Scalar.addi v2 c6_i32_212
  let c16_i32_213 : BitVec 32 := 16#32
  let c0_i32_214 : BitVec 32 := 0#32
  let v319 : BitVec 1 := Scalar.cmpi .eq c16_i32_213 c0_i32_214
  let c1_i32_215 : BitVec 32 := 1#32
  let v320 : BitVec 32 := Scalar.select v319 c1_i32_215 c16_i32_213
  let v321 : BitVec 32 := Scalar.remsi v318 v320
  let c0_i32_217 : BitVec 32 := 0#32
  let v323 : BitVec 1 := Scalar.cmpi .slt v321 c0_i32_217
  let c0_i32_218 : BitVec 32 := 0#32
  let v324 : BitVec 1 := Scalar.cmpi .slt v320 c0_i32_218
  let v325 : BitVec 1 := Scalar.xori v323 v324
  let c0_i32_216 : BitVec 32 := 0#32
  let v322 : BitVec 1 := Scalar.cmpi .ne v321 c0_i32_216
  let v326 : BitVec 1 := Scalar.andi v325 v322
  let v327 : BitVec 32 := Scalar.addi v321 v320
  let v328 : BitVec 32 := Scalar.select v326 v327 v321
  let c1_i32_222 : BitVec 32 := 1#32
  let v331 : BitVec 32 := Scalar.muli v328 c1_i32_222
  let v332 : BitVec 32 := Scalar.addi c0_i32_223 v331
  v332.toNat
def k0_dev22 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_226 : BitVec 32 := 7#32
  let v339 : BitVec 32 := Scalar.addi v2 c7_i32_226
  let c16_i32_227 : BitVec 32 := 16#32
  let c0_i32_228 : BitVec 32 := 0#32
  let v340 : BitVec 1 := Scalar.cmpi .eq c16_i32_227 c0_i32_228
  let c1_i32_229 : BitVec 32 := 1#32
  let v341 : BitVec 32 := Scalar.select v340 c1_i32_229 c16_i32_227
  let v342 : BitVec 32 := Scalar.remsi v339 v341
  let c0_i32_231 : BitVec 32 := 0#32
  let v344 : BitVec 1 := Scalar.cmpi .slt v342 c0_i32_231
  let c0_i32_232 : BitVec 32 := 0#32
  let v345 : BitVec 1 := Scalar.cmpi .slt v341 c0_i32_232
  let v346 : BitVec 1 := Scalar.xori v344 v345
  let c0_i32_230 : BitVec 32 := 0#32
  let v343 : BitVec 1 := Scalar.cmpi .ne v342 c0_i32_230
  let v347 : BitVec 1 := Scalar.andi v346 v343
  let v348 : BitVec 32 := Scalar.addi v342 v341
  let v349 : BitVec 32 := Scalar.select v347 v348 v342
  let c1_i32_236 : BitVec 32 := 1#32
  let v352 : BitVec 32 := Scalar.muli v349 c1_i32_236
  let v353 : BitVec 32 := Scalar.addi c0_i32_237 v352
  v353.toNat
def k0_dev23 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_240 : BitVec 32 := 8#32
  let v360 : BitVec 32 := Scalar.addi v2 c8_i32_240
  let c16_i32_241 : BitVec 32 := 16#32
  let c0_i32_242 : BitVec 32 := 0#32
  let v361 : BitVec 1 := Scalar.cmpi .eq c16_i32_241 c0_i32_242
  let c1_i32_243 : BitVec 32 := 1#32
  let v362 : BitVec 32 := Scalar.select v361 c1_i32_243 c16_i32_241
  let v363 : BitVec 32 := Scalar.remsi v360 v362
  let c0_i32_245 : BitVec 32 := 0#32
  let v365 : BitVec 1 := Scalar.cmpi .slt v363 c0_i32_245
  let c0_i32_246 : BitVec 32 := 0#32
  let v366 : BitVec 1 := Scalar.cmpi .slt v362 c0_i32_246
  let v367 : BitVec 1 := Scalar.xori v365 v366
  let c0_i32_244 : BitVec 32 := 0#32
  let v364 : BitVec 1 := Scalar.cmpi .ne v363 c0_i32_244
  let v368 : BitVec 1 := Scalar.andi v367 v364
  let v369 : BitVec 32 := Scalar.addi v363 v362
  let v370 : BitVec 32 := Scalar.select v368 v369 v363
  let c1_i32_250 : BitVec 32 := 1#32
  let v373 : BitVec 32 := Scalar.muli v370 c1_i32_250
  let v374 : BitVec 32 := Scalar.addi c0_i32_251 v373
  v374.toNat
def k0_dev24 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_254 : BitVec 32 := 9#32
  let v381 : BitVec 32 := Scalar.addi v2 c9_i32_254
  let c16_i32_255 : BitVec 32 := 16#32
  let c0_i32_256 : BitVec 32 := 0#32
  let v382 : BitVec 1 := Scalar.cmpi .eq c16_i32_255 c0_i32_256
  let c1_i32_257 : BitVec 32 := 1#32
  let v383 : BitVec 32 := Scalar.select v382 c1_i32_257 c16_i32_255
  let v384 : BitVec 32 := Scalar.remsi v381 v383
  let c0_i32_259 : BitVec 32 := 0#32
  let v386 : BitVec 1 := Scalar.cmpi .slt v384 c0_i32_259
  let c0_i32_260 : BitVec 32 := 0#32
  let v387 : BitVec 1 := Scalar.cmpi .slt v383 c0_i32_260
  let v388 : BitVec 1 := Scalar.xori v386 v387
  let c0_i32_258 : BitVec 32 := 0#32
  let v385 : BitVec 1 := Scalar.cmpi .ne v384 c0_i32_258
  let v389 : BitVec 1 := Scalar.andi v388 v385
  let v390 : BitVec 32 := Scalar.addi v384 v383
  let v391 : BitVec 32 := Scalar.select v389 v390 v384
  let c1_i32_264 : BitVec 32 := 1#32
  let v394 : BitVec 32 := Scalar.muli v391 c1_i32_264
  let v395 : BitVec 32 := Scalar.addi c0_i32_265 v394
  v395.toNat
def k0_dev25 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_268 : BitVec 32 := 10#32
  let v402 : BitVec 32 := Scalar.addi v2 c10_i32_268
  let c16_i32_269 : BitVec 32 := 16#32
  let c0_i32_270 : BitVec 32 := 0#32
  let v403 : BitVec 1 := Scalar.cmpi .eq c16_i32_269 c0_i32_270
  let c1_i32_271 : BitVec 32 := 1#32
  let v404 : BitVec 32 := Scalar.select v403 c1_i32_271 c16_i32_269
  let v405 : BitVec 32 := Scalar.remsi v402 v404
  let c0_i32_273 : BitVec 32 := 0#32
  let v407 : BitVec 1 := Scalar.cmpi .slt v405 c0_i32_273
  let c0_i32_274 : BitVec 32 := 0#32
  let v408 : BitVec 1 := Scalar.cmpi .slt v404 c0_i32_274
  let v409 : BitVec 1 := Scalar.xori v407 v408
  let c0_i32_272 : BitVec 32 := 0#32
  let v406 : BitVec 1 := Scalar.cmpi .ne v405 c0_i32_272
  let v410 : BitVec 1 := Scalar.andi v409 v406
  let v411 : BitVec 32 := Scalar.addi v405 v404
  let v412 : BitVec 32 := Scalar.select v410 v411 v405
  let c1_i32_278 : BitVec 32 := 1#32
  let v415 : BitVec 32 := Scalar.muli v412 c1_i32_278
  let v416 : BitVec 32 := Scalar.addi c0_i32_279 v415
  v416.toNat
def k0_dev26 (d0 : Dev nD) : Nat :=
  let c0_i32_293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_282 : BitVec 32 := 11#32
  let v423 : BitVec 32 := Scalar.addi v2 c11_i32_282
  let c16_i32_283 : BitVec 32 := 16#32
  let c0_i32_284 : BitVec 32 := 0#32
  let v424 : BitVec 1 := Scalar.cmpi .eq c16_i32_283 c0_i32_284
  let c1_i32_285 : BitVec 32 := 1#32
  let v425 : BitVec 32 := Scalar.select v424 c1_i32_285 c16_i32_283
  let v426 : BitVec 32 := Scalar.remsi v423 v425
  let c0_i32_287 : BitVec 32 := 0#32
  let v428 : BitVec 1 := Scalar.cmpi .slt v426 c0_i32_287
  let c0_i32_288 : BitVec 32 := 0#32
  let v429 : BitVec 1 := Scalar.cmpi .slt v425 c0_i32_288
  let v430 : BitVec 1 := Scalar.xori v428 v429
  let c0_i32_286 : BitVec 32 := 0#32
  let v427 : BitVec 1 := Scalar.cmpi .ne v426 c0_i32_286
  let v431 : BitVec 1 := Scalar.andi v430 v427
  let v432 : BitVec 32 := Scalar.addi v426 v425
  let v433 : BitVec 32 := Scalar.select v431 v432 v426
  let c1_i32_292 : BitVec 32 := 1#32
  let v436 : BitVec 32 := Scalar.muli v433 c1_i32_292
  let v437 : BitVec 32 := Scalar.addi c0_i32_293 v436
  v437.toNat
def k0_dev27 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_296 : BitVec 32 := 12#32
  let v444 : BitVec 32 := Scalar.addi v2 c12_i32_296
  let c16_i32_297 : BitVec 32 := 16#32
  let c0_i32_298 : BitVec 32 := 0#32
  let v445 : BitVec 1 := Scalar.cmpi .eq c16_i32_297 c0_i32_298
  let c1_i32_299 : BitVec 32 := 1#32
  let v446 : BitVec 32 := Scalar.select v445 c1_i32_299 c16_i32_297
  let v447 : BitVec 32 := Scalar.remsi v444 v446
  let c0_i32_301 : BitVec 32 := 0#32
  let v449 : BitVec 1 := Scalar.cmpi .slt v447 c0_i32_301
  let c0_i32_302 : BitVec 32 := 0#32
  let v450 : BitVec 1 := Scalar.cmpi .slt v446 c0_i32_302
  let v451 : BitVec 1 := Scalar.xori v449 v450
  let c0_i32_300 : BitVec 32 := 0#32
  let v448 : BitVec 1 := Scalar.cmpi .ne v447 c0_i32_300
  let v452 : BitVec 1 := Scalar.andi v451 v448
  let v453 : BitVec 32 := Scalar.addi v447 v446
  let v454 : BitVec 32 := Scalar.select v452 v453 v447
  let c1_i32_306 : BitVec 32 := 1#32
  let v457 : BitVec 32 := Scalar.muli v454 c1_i32_306
  let v458 : BitVec 32 := Scalar.addi c0_i32_307 v457
  v458.toNat
def k0_dev28 (d0 : Dev nD) : Nat :=
  let c0_i32_321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_310 : BitVec 32 := 13#32
  let v465 : BitVec 32 := Scalar.addi v2 c13_i32_310
  let c16_i32_311 : BitVec 32 := 16#32
  let c0_i32_312 : BitVec 32 := 0#32
  let v466 : BitVec 1 := Scalar.cmpi .eq c16_i32_311 c0_i32_312
  let c1_i32_313 : BitVec 32 := 1#32
  let v467 : BitVec 32 := Scalar.select v466 c1_i32_313 c16_i32_311
  let v468 : BitVec 32 := Scalar.remsi v465 v467
  let c0_i32_315 : BitVec 32 := 0#32
  let v470 : BitVec 1 := Scalar.cmpi .slt v468 c0_i32_315
  let c0_i32_316 : BitVec 32 := 0#32
  let v471 : BitVec 1 := Scalar.cmpi .slt v467 c0_i32_316
  let v472 : BitVec 1 := Scalar.xori v470 v471
  let c0_i32_314 : BitVec 32 := 0#32
  let v469 : BitVec 1 := Scalar.cmpi .ne v468 c0_i32_314
  let v473 : BitVec 1 := Scalar.andi v472 v469
  let v474 : BitVec 32 := Scalar.addi v468 v467
  let v475 : BitVec 32 := Scalar.select v473 v474 v468
  let c1_i32_320 : BitVec 32 := 1#32
  let v478 : BitVec 32 := Scalar.muli v475 c1_i32_320
  let v479 : BitVec 32 := Scalar.addi c0_i32_321 v478
  v479.toNat
def k0_dev29 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_324 : BitVec 32 := 14#32
  let v486 : BitVec 32 := Scalar.addi v2 c14_i32_324
  let c16_i32_325 : BitVec 32 := 16#32
  let c0_i32_326 : BitVec 32 := 0#32
  let v487 : BitVec 1 := Scalar.cmpi .eq c16_i32_325 c0_i32_326
  let c1_i32_327 : BitVec 32 := 1#32
  let v488 : BitVec 32 := Scalar.select v487 c1_i32_327 c16_i32_325
  let v489 : BitVec 32 := Scalar.remsi v486 v488
  let c0_i32_329 : BitVec 32 := 0#32
  let v491 : BitVec 1 := Scalar.cmpi .slt v489 c0_i32_329
  let c0_i32_330 : BitVec 32 := 0#32
  let v492 : BitVec 1 := Scalar.cmpi .slt v488 c0_i32_330
  let v493 : BitVec 1 := Scalar.xori v491 v492
  let c0_i32_328 : BitVec 32 := 0#32
  let v490 : BitVec 1 := Scalar.cmpi .ne v489 c0_i32_328
  let v494 : BitVec 1 := Scalar.andi v493 v490
  let v495 : BitVec 32 := Scalar.addi v489 v488
  let v496 : BitVec 32 := Scalar.select v494 v495 v489
  let c1_i32_334 : BitVec 32 := 1#32
  let v499 : BitVec 32 := Scalar.muli v496 c1_i32_334
  let v500 : BitVec 32 := Scalar.addi c0_i32_335 v499
  v500.toNat
def k0_dev30 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_338 : BitVec 32 := 15#32
  let v507 : BitVec 32 := Scalar.addi v2 c15_i32_338
  let c16_i32_339 : BitVec 32 := 16#32
  let c0_i32_340 : BitVec 32 := 0#32
  let v508 : BitVec 1 := Scalar.cmpi .eq c16_i32_339 c0_i32_340
  let c1_i32_341 : BitVec 32 := 1#32
  let v509 : BitVec 32 := Scalar.select v508 c1_i32_341 c16_i32_339
  let v510 : BitVec 32 := Scalar.remsi v507 v509
  let c0_i32_343 : BitVec 32 := 0#32
  let v512 : BitVec 1 := Scalar.cmpi .slt v510 c0_i32_343
  let c0_i32_344 : BitVec 32 := 0#32
  let v513 : BitVec 1 := Scalar.cmpi .slt v509 c0_i32_344
  let v514 : BitVec 1 := Scalar.xori v512 v513
  let c0_i32_342 : BitVec 32 := 0#32
  let v511 : BitVec 1 := Scalar.cmpi .ne v510 c0_i32_342
  let v515 : BitVec 1 := Scalar.andi v514 v511
  let v516 : BitVec 32 := Scalar.addi v510 v509
  let v517 : BitVec 32 := Scalar.select v515 v516 v510
  let c1_i32_348 : BitVec 32 := 1#32
  let v520 : BitVec 32 := Scalar.muli v517 c1_i32_348
  let v521 : BitVec 32 := Scalar.addi c0_i32_349 v520
  v521.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_358 : BitVec 32 := 256#32
  let v536 : BitVec 32 := Scalar.muli v2 c256_i32_358
  let v537 : Index := Scalar.indexCast v536
  let c0_359 : Index := 0#32
  ![v537.toNat, 0]
def k0_off7 (d0 : Dev nD) (c1_i32_362 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v541 : BitVec 32 := Scalar.subi v2 c1_i32_362
  let c16_i32_363 : BitVec 32 := 16#32
  let c0_i32_364 : BitVec 32 := 0#32
  let v542 : BitVec 1 := Scalar.cmpi .eq c16_i32_363 c0_i32_364
  let c1_i32_365 : BitVec 32 := 1#32
  let v543 : BitVec 32 := Scalar.select v542 c1_i32_365 c16_i32_363
  let v544 : BitVec 32 := Scalar.remsi v541 v543
  let c0_i32_367 : BitVec 32 := 0#32
  let v546 : BitVec 1 := Scalar.cmpi .slt v544 c0_i32_367
  let c0_i32_368 : BitVec 32 := 0#32
  let v547 : BitVec 1 := Scalar.cmpi .slt v543 c0_i32_368
  let v548 : BitVec 1 := Scalar.xori v546 v547
  let c0_i32_366 : BitVec 32 := 0#32
  let v545 : BitVec 1 := Scalar.cmpi .ne v544 c0_i32_366
  let v549 : BitVec 1 := Scalar.andi v548 v545
  let v550 : BitVec 32 := Scalar.addi v544 v543
  let v551 : BitVec 32 := Scalar.select v549 v550 v544
  ![v551.toNat]
def k0_off8 (d0 : Dev nD) (c1_i32_362 : BitVec 32) : Fin 2 → Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v541 : BitVec 32 := Scalar.subi v2 c1_i32_362
  let c16_i32_363 : BitVec 32 := 16#32
  let c0_i32_364 : BitVec 32 := 0#32
  let v542 : BitVec 1 := Scalar.cmpi .eq c16_i32_363 c0_i32_364
  let c1_i32_365 : BitVec 32 := 1#32
  let v543 : BitVec 32 := Scalar.select v542 c1_i32_365 c16_i32_363
  let v544 : BitVec 32 := Scalar.remsi v541 v543
  let c0_i32_367 : BitVec 32 := 0#32
  let v546 : BitVec 1 := Scalar.cmpi .slt v544 c0_i32_367
  let c0_i32_368 : BitVec 32 := 0#32
  let v547 : BitVec 1 := Scalar.cmpi .slt v543 c0_i32_368
  let v548 : BitVec 1 := Scalar.xori v546 v547
  let c0_i32_366 : BitVec 32 := 0#32
  let v545 : BitVec 1 := Scalar.cmpi .ne v544 c0_i32_366
  let v549 : BitVec 1 := Scalar.andi v548 v545
  let v550 : BitVec 32 := Scalar.addi v544 v543
  let v551 : BitVec 32 := Scalar.select v549 v550 v544
  let c256_i32_369 : BitVec 32 := 256#32
  let v552 : BitVec 32 := Scalar.muli v551 c256_i32_369
  ![0, v552.toNat]
def k0_off9 (d0 : Dev nD) (c1_i32_362 : BitVec 32) : Fin 2 → Nat :=
  let c0_379 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v541 : BitVec 32 := Scalar.subi v2 c1_i32_362
  let c16_i32_363 : BitVec 32 := 16#32
  let c0_i32_364 : BitVec 32 := 0#32
  let v542 : BitVec 1 := Scalar.cmpi .eq c16_i32_363 c0_i32_364
  let c1_i32_365 : BitVec 32 := 1#32
  let v543 : BitVec 32 := Scalar.select v542 c1_i32_365 c16_i32_363
  let v544 : BitVec 32 := Scalar.remsi v541 v543
  let c0_i32_367 : BitVec 32 := 0#32
  let v546 : BitVec 1 := Scalar.cmpi .slt v544 c0_i32_367
  let c0_i32_368 : BitVec 32 := 0#32
  let v547 : BitVec 1 := Scalar.cmpi .slt v543 c0_i32_368
  let v548 : BitVec 1 := Scalar.xori v546 v547
  let c0_i32_366 : BitVec 32 := 0#32
  let v545 : BitVec 1 := Scalar.cmpi .ne v544 c0_i32_366
  let v549 : BitVec 1 := Scalar.andi v548 v545
  let v550 : BitVec 32 := Scalar.addi v544 v543
  let v551 : BitVec 32 := Scalar.select v549 v550 v544
  let c256_i32_378 : BitVec 32 := 256#32
  let v561 : BitVec 32 := Scalar.muli v551 c256_i32_378
  let v562 : Index := Scalar.indexCast v561
  ![0, v562.toNat]
def k0_off10 (d0 : Dev nD) (c1_i32_362 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v541 : BitVec 32 := Scalar.subi v2 c1_i32_362
  let c16_i32_363 : BitVec 32 := 16#32
  let c0_i32_364 : BitVec 32 := 0#32
  let v542 : BitVec 1 := Scalar.cmpi .eq c16_i32_363 c0_i32_364
  let c1_i32_365 : BitVec 32 := 1#32
  let v543 : BitVec 32 := Scalar.select v542 c1_i32_365 c16_i32_363
  let v544 : BitVec 32 := Scalar.remsi v541 v543
  let c0_i32_367 : BitVec 32 := 0#32
  let v546 : BitVec 1 := Scalar.cmpi .slt v544 c0_i32_367
  let c0_i32_368 : BitVec 32 := 0#32
  let v547 : BitVec 1 := Scalar.cmpi .slt v543 c0_i32_368
  let v548 : BitVec 1 := Scalar.xori v546 v547
  let c0_i32_366 : BitVec 32 := 0#32
  let v545 : BitVec 1 := Scalar.cmpi .ne v544 c0_i32_366
  let v549 : BitVec 1 := Scalar.andi v548 v545
  let v550 : BitVec 32 := Scalar.addi v544 v543
  let v551 : BitVec 32 := Scalar.select v549 v550 v544
  let c256_i32_380 : BitVec 32 := 256#32
  let v564 : BitVec 32 := Scalar.muli v551 c256_i32_380
  let v565 : Index := Scalar.indexCast v564
  let c0_381 : Index := 0#32
  ![v565.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Prog.lean ====
/-
The body of the kernel, brought into the form that the proof steps through.

A device signals the fifteen others, sends a block to each of them, takes a block from each of them, and
waits for its own sends. The kernel's text has these four loops written out; here each loop is a step at a
symbolic place `r : Fin 15` (the offset `r + 1` from the device to its partner), repeated.
-/
module

public import proofs.«01_k».proof.Proof.Gen.KernelIdeal
public import proofs.«01_k».proof.Proof.Gen.KernelIdeal.Skeleton
public import proofs.«01_k».proof.Proof.Gen.KernelIdeal.Launch

@[expose] public section

set_option synthInstance.maxSize 4096

noncomputable section

namespace Cert.KernelIdeal.AllToAll

open Cert.KernelIdeal Cert.KernelIdeal.Gen
open Idealize.ShloMosaic Idealize.SL.Sem

variable {F : FTy → Type} [FloatOps F]

/-- A program of the kernel's, with values in `F` and no result. -/
abbrev PR (F : FTy → Type) [FloatOps F] := Prog (TpuEff nD τ sig (Elt F) Λ₀ .tc) PUnit

/-! ## Partners -/

/-- The device `r + 1` places after `c`: where `c` sends its block number `r`. -/
def fwd (c : Dev nD) (r : Fin 15) : Dev nD := ⟨(c.val + (r.val + 1)) % 16, Nat.mod_lt _ (by decide)⟩

/-- The device `r + 1` places before `c`: from which `c` takes its block number `r`. -/
def bwd (c : Dev nD) (r : Fin 15) : Dev nD := ⟨(c.val + (15 - r.val)) % 16, Nat.mod_lt _ (by decide)⟩

/-- The device that the `r`-th signal goes to, as the kernel computes it. -/
def sigDev : Fin 15 → (c : Dev nD) → Dev nD
  | 0, c => ⟨k0_dev1 c, k0_dev1_lt c⟩
  | 1, c => ⟨k0_dev2 c, k0_dev2_lt c⟩
  | 2, c => ⟨k0_dev3 c, k0_dev3_lt c⟩
  | 3, c => ⟨k0_dev4 c, k0_dev4_lt c⟩
  | 4, c => ⟨k0_dev5 c, k0_dev5_lt c⟩
  | 5, c => ⟨k0_dev6 c, k0_dev6_lt c⟩
  | 6, c => ⟨k0_dev7 c, k0_dev7_lt c⟩
  | 7, c => ⟨k0_dev8 c, k0_dev8_lt c⟩
  | 8, c => ⟨k0_dev9 c, k0_dev9_lt c⟩
  | 9, c => ⟨k0_dev10 c, k0_dev10_lt c⟩
  | 10, c => ⟨k0_dev11 c, k0_dev11_lt c⟩
  | 11, c => ⟨k0_dev12 c, k0_dev12_lt c⟩
  | 12, c => ⟨k0_dev13 c, k0_dev13_lt c⟩
  | 13, c => ⟨k0_dev14 c, k0_dev14_lt c⟩
  | 14, c => ⟨k0_dev15 c, k0_dev15_lt c⟩

/-- The device that the `r`-th block is sent to, as the kernel computes it. -/
def sendDev : Fin 15 → (c : Dev nD) → Dev nD
  | 0, c => ⟨k0_dev16 c, k0_dev16_lt c⟩
  | 1, c => ⟨k0_dev17 c, k0_dev17_lt c⟩
  | 2, c => ⟨k0_dev18 c, k0_dev18_lt c⟩
  | 3, c => ⟨k0_dev19 c, k0_dev19_lt c⟩
  | 4, c => ⟨k0_dev20 c, k0_dev20_lt c⟩
  | 5, c => ⟨k0_dev21 c, k0_dev21_lt c⟩
  | 6, c => ⟨k0_dev22 c, k0_dev22_lt c⟩
  | 7, c => ⟨k0_dev23 c, k0_dev23_lt c⟩
  | 8, c => ⟨k0_dev24 c, k0_dev24_lt c⟩
  | 9, c => ⟨k0_dev25 c, k0_dev25_lt c⟩
  | 10, c => ⟨k0_dev26 c, k0_dev26_lt c⟩
  | 11, c => ⟨k0_dev27 c, k0_dev27_lt c⟩
  | 12, c => ⟨k0_dev28 c, k0_dev28_lt c⟩
  | 13, c => ⟨k0_dev29 c, k0_dev29_lt c⟩
  | 14, c => ⟨k0_dev30 c, k0_dev30_lt c⟩

/-- The `r`-th signal goes to the device `r + 1` places on. -/
theorem sigDev_eq : ∀ r c, sigDev r c = fwd c r := by decide +kernel

/-- The `r`-th block goes to the device `r + 1` places on. -/
theorem sendDev_eq : ∀ r c, sendDev r c = fwd c r := by decide +kernel

/-- The loop's word for the `r`-th partner. -/
abbrev kw (r : Fin 15) : BitVec 32 := BitVec.ofNat 32 (1 + r.val)

theorem off5_eq : ∀ (c : Dev nD) (r : Fin 15), k0_off5 c (kw r) = ![256 * (fwd c r).val, 0] := by decide +kernel
theorem off7_eq : ∀ (c : Dev nD) (r : Fin 15), k0_off7 c (kw r) = ![(bwd c r).val] := by decide +kernel
theorem off8_eq : ∀ (c : Dev nD) (r : Fin 15), k0_off8 c (kw r) = ![0, 256 * (bwd c r).val] := by decide +kernel
theorem off9_eq : ∀ (c : Dev nD) (r : Fin 15), k0_off9 c (kw r) = ![0, 256 * (bwd c r).val] := by decide +kernel
theorem off10_eq : ∀ (c : Dev nD) (r : Fin 15), k0_off10 c (kw r) = ![256 * (bwd c r).val, 0] := by decide +kernel

/-- The number of a send semaphore is one of the sixteen. -/
theorem sendIx_inb : ∀ (r : Fin 15) a, (![1 + r.val] : Fin 1 → ℕ) a + S1.size a ≤ S16.size a := by decide

/-! ## The steps of the body -/

section Steps

variable (arg0 : Memref sig .tc .vmem S4096x256 .f32) (harg0 : arg0.IsWhole) (arg1 : Memref sig .tc .hbm S4096x2048 .f32) (harg1 : arg1.IsWhole)
  (arg2 : Memref sig .tc .vmem S256x2048 .f32) (harg2 : arg2.IsWhole) (arg3 : Memref sig .tc .vmem S4096x256 .bf16) (harg3 : arg3.IsWhole)
  (arg4 : Memref sig .tc .vmem S256x4096 .bf16) (harg4 : arg4.IsWhole) (arg5 : Memref sig .tc .vmem S4096x2048 .f32) (harg5 : arg5.IsWhole)
  (arg6 : Memref sig .tc .vmem S4096x2048 .bf16) (harg6 : arg6.IsWhole) (arg7 : DmaSems sig S16) (arg8 : DmaSems sig S16) (arg9 : DmaSems sig S_)

/-- The rows of the device's own block that its `r`-th send reads. -/
abbrev sendSrc (c : Dev nD) (r : Fin 15) : Memref sig .tc .vmem S256x256 .bf16 :=
  arg3.slice (Rect.unit (s := S4096x256) (k0_off5 c (kw r)) S256x256.size (k0_off5_inb c r)) (fun _ => rfl)

/-- The columns of a partner's gathered block that every send of the device writes. -/
abbrev sendDst (c : Dev nD) : Memref sig .tc .vmem S256x256 .bf16 :=
  arg4.slice (Rect.unit (s := S256x4096) (k0_off4 c) S256x256.size (k0_off4_inb c)) (fun _ => rfl)

/-- The columns of the gathered block that the `r`-th receipt fills. -/
abbrev recvDst (c : Dev nD) (r : Fin 15) : Memref sig .tc .vmem S256x256 .bf16 :=
  arg4.slice (Rect.unit (s := S256x4096) (k0_off8 c (kw r)) S256x256.size (k0_off8_inb c r)) (fun _ => rfl)

/-- The semaphore of the `r`-th send. -/
abbrev sendS (r : Fin 15) : DmaSem sig :=
  ((arg7.slice (Rect.unit (s := S16) ![1 + r.val] S1.size (sendIx_inb r))).squeeze S_ squeezes_S1_S_).sem

/-- The semaphore, on the partner, that every send of the device arrives at. -/
abbrev arriveS (c : Dev nD) : DmaSem sig :=
  ((arg8.slice (Rect.unit (s := S16) (k0_off3 c) S1.size (k0_off3_inb c))).squeeze S_ squeezes_S1_S_).sem

/-- The semaphore of the `r`-th receipt. -/
abbrev recvS (c : Dev nD) (r : Fin 15) : DmaSem sig :=
  ((arg8.slice (Rect.unit (s := S16) (k0_off7 c (kw r)) S1.size (k0_off7_inb c r))).squeeze S_ squeezes_S1_S_).sem

/-- The barrier's semaphore. -/
abbrev barS := SemArray.sem (SemArray.scalar (sig.barrier 0 rfl) : Sems sig S_)

/-- The weights are fetched, and the device's block is rounded and its own part put in place. -/
def start (c : Dev nD) : PR F := do
  Prog.lift (.enqueueDma arg1 (.here arg5) (.dma arg9.sem) harg1.wordExact harg5.wordExact ⟨Or.inl rfl, trivial⟩)
  let v3 : Vec F S4096x256 .f32 ← Prog.lift (.load arg0 (Rect.unit (s := S4096x256) ![0, 0] S4096x256.size inb_S4096x256_S4096x256_0_0).toLoadRect (View.loadsAt_vmem h_S4096x256))
  let v6 : Vec F S4096x256 .bf16 ← Prog.lift (.load arg3 (Rect.unit (s := S4096x256) ![0, 0] S4096x256.size inb_S4096x256_S4096x256_0_0).toLoadRect (View.loadsAt_vmem h_S4096x256))
  Prog.lift (.store arg3 (Rect.unit (s := S4096x256) ![0, 0] S4096x256.size inb_S4096x256_S4096x256_0_0) (k0_pay1 v3) Finset.univ (View.stores_vmem h_S4096x256 (harg3.storeExact_slice rfl _ packedbf16_S4096x256_S4096x256_0_0) (fun _ => rfl)) (.inl rfl))
  let v11 : Vec F S256x256 .bf16 ← Prog.lift (.load arg3 (Rect.unit (s := S4096x256) (k0_off1 c) S256x256.size (k0_off1_inb c)).toLoadRect (View.loadsAt_vmem h_S256x256))
  let v14 : Vec F S256x256 .bf16 ← Prog.lift (.load arg4 (Rect.unit (s := S256x4096) (k0_off2 c) S256x256.size (k0_off2_inb c)).toLoadRect (View.loadsAt_vmem h_S256x256))
  Prog.lift (.store arg4 (Rect.unit (s := S256x4096) (k0_off2 c) S256x256.size (k0_off2_inb c)) (k0_pay2 v11) Finset.univ (View.stores_vmem h_S256x256 (harg4.storeExact_slice rfl _ (k0_off2_packedbf16 c)) (fun _ => rfl)) (.inl rfl))

/-- The `r`-th signal of the entry barrier. -/
def sigStep (c : Dev nD) (r : Fin 15) : PR F := semSignalWord (sigDev r c) barS 1#32

/-- The `r`-th send. -/
def sendStep (c : Dev nD) (r : Fin 15) : PR F :=
  Prog.lift (.enqueueDma (sendSrc arg3 c r) (.remote (Dev.tc (sendDev r c)) (sendDst arg4 c) (.dma (sendS arg7 r))) (.dma (arriveS arg8 c))
    (harg3.wordExact_slice rfl _ (k0_off5_wordsbf16 c r)) (harg4.wordExact_slice rfl _ (k0_off4_wordsbf16 c)) ⟨⟨rfl, Or.inl rfl⟩, trivial⟩)

/-- The weights arrive, are rounded, and the device's own part of the product starts the sum. -/
def own (c : Dev nD) : PR F := do
  Prog.lift (.waitDma2 arg9.sem arg1 arg5 harg1.wordExact harg5.wordExact)
  let v528 : Vec F S4096x2048 .f32 ← Prog.lift (.load arg5 (Rect.unit (s := S4096x2048) ![0, 0] S4096x2048.size inb_S4096x2048_S4096x2048_0_0).toLoadRect (View.loadsAt_vmem h_S4096x2048))
  let v530 : Vec F S4096x2048 .bf16 ← Prog.lift (.load arg6 (Rect.unit (s := S4096x2048) ![0, 0] S4096x2048.size inb_S4096x2048_S4096x2048_0_0).toLoadRect (View.loadsAt_vmem h_S4096x2048))
  Prog.lift (.store arg6 (Rect.unit (s := S4096x2048) ![0, 0] S4096x2048.size inb_S4096x2048_S4096x2048_0_0) (k0_pay3 v528) Finset.univ (View.stores_vmem h_S4096x2048 (harg6.storeExact_slice rfl _ packedbf16_S4096x2048_S4096x2048_0_0) (fun _ => rfl)) (.inl rfl))
  let v535 : Vec F S256x256 .bf16 ← Prog.lift (.load arg4 (Rect.unit (s := S256x4096) (k0_off2 c) S256x256.size (k0_off2_inb c)).toLoadRect (View.loadsAt_vmem h_S256x256))
  let v538 : Vec F S256x2048 .bf16 ← Prog.lift (.load arg6 (Rect.unit (s := S4096x2048) (k0_off6 c) S256x2048.size (k0_off6_inb c)).toLoadRect (View.loadsAt_vmem h_S256x2048))
  let v540 : Vec F S256x2048 .f32 ← Prog.lift (.load arg2 (Rect.unit (s := S256x2048) ![0, 0] S256x2048.size inb_S256x2048_S256x2048_0_0).toLoadRect (View.loadsAt_vmem h_S256x2048))
  Prog.lift (.store arg2 (Rect.unit (s := S256x2048) ![0, 0] S256x2048.size inb_S256x2048_S256x2048_0_0) (k0_pay4 v535 v538) Finset.univ (View.stores_vmem_bits_univ h_S256x2048 rfl) (.inl rfl))

/-- The `r`-th receipt: wait for the block, multiply it with its rows of the weights, add to the sum. -/
def recvStep (c : Dev nD) (r : Fin 15) : PR F := do
  Prog.lift (.waitDma2 (recvS arg8 c r) (arg3.slice (Rect.unit (s := S4096x256) ![0, 0] S256x256.size inb_S4096x256_S256x256_0_0) (fun _ => rfl)) (recvDst arg4 c r)
    (harg3.wordExact_slice rfl _ wordsbf16_S4096x256_S256x256_0_0) (harg4.wordExact_slice rfl _ (k0_off8_wordsbf16 c r)))
  let v559 : Vec F S256x2048 .f32 ← Prog.lift (.load arg2 (Rect.unit (s := S256x2048) ![0, 0] S256x2048.size inb_S256x2048_S256x2048_0_0).toLoadRect (View.loadsAt_vmem h_S256x2048))
  let v563 : Vec F S256x256 .bf16 ← Prog.lift (.load arg4 (Rect.unit (s := S256x4096) (k0_off9 c (kw r)) S256x256.size (k0_off9_inb c r)).toLoadRect (View.loadsAt_vmem h_S256x256))
  let v566 : Vec F S256x2048 .bf16 ← Prog.lift (.load arg6 (Rect.unit (s := S4096x2048) (k0_off10 c (kw r)) S256x2048.size (k0_off10_inb c r)).toLoadRect (View.loadsAt_vmem h_S256x2048))
  let v569 : Vec F S256x2048 .f32 ← Prog.lift (.load arg2 (Rect.unit (s := S256x2048) ![0, 0] S256x2048.size inb_S256x2048_S256x2048_0_0).toLoadRect (View.loadsAt_vmem h_S256x2048))
  Prog.lift (.store arg2 (Rect.unit (s := S256x2048) ![0, 0] S256x2048.size inb_S256x2048_S256x2048_0_0) (k0_pay5 v559 v563 v566) Finset.univ (View.stores_vmem_bits_univ h_S256x2048 rfl) (.inl rfl))

/-- The activation, in place. -/
def epilogue : PR F := do
  let v976 : Vec F S256x2048 .f32 ← Prog.lift (.load arg2 (Rect.unit (s := S256x2048) ![0, 0] S256x2048.size inb_S256x2048_S256x2048_0_0).toLoadRect (View.loadsAt_vmem h_S256x2048))
  let v980 : Vec F S256x2048 .f32 ← Prog.lift (.load arg2 (Rect.unit (s := S256x2048) ![0, 0] S256x2048.size inb_S256x2048_S256x2048_0_0).toLoadRect (View.loadsAt_vmem h_S256x2048))
  Prog.lift (.store arg2 (Rect.unit (s := S256x2048) ![0, 0] S256x2048.size inb_S256x2048_S256x2048_0_0) (k0_pay22 v976) Finset.univ (View.stores_vmem_bits_univ h_S256x2048 rfl) (.inl rfl))

/-- The wait for the `r`-th send. -/
def sentStep (c : Dev nD) (r : Fin 15) : PR F :=
  Prog.lift (.waitDma2 (sendS arg7 r) (sendDst arg4 c) (sendSrc arg3 c r) (harg4.wordExact_slice rfl _ (k0_off4_wordsbf16 c)) (harg3.wordExact_slice rfl _ (k0_off5_wordsbf16 c r)))

/-- A step at each of the fifteen places, in order. -/
def each (f : Fin 15 → PR F) : PR F := (List.finRange 15).forM f

/-- The whole body, by its steps. -/
def body : PR F := do
  let c : Dev nD ← Prog.lift .deviceId
  start arg0 arg1 harg1 arg3 harg3 arg4 harg4 arg5 harg5 arg9 c
  each (sigStep c)
  semWaitWord barS 15#32
  each (sendStep arg3 harg3 arg4 harg4 arg7 arg8 c)
  own arg1 harg1 arg2 arg4 arg5 harg5 arg6 harg6 arg9 c
  each (recvStep arg2 arg3 harg3 arg4 harg4 arg6 arg8 c)
  epilogue arg2
  each (sentStep arg3 harg3 arg4 harg4 arg7 c)

set_option maxRecDepth 65536 in
set_option maxHeartbeats 0 in
/-- The kernel's body is its steps. -/
theorem cc0_body_eq :
    cc0_body (F := F) arg0 harg0 arg1 harg1 arg2 harg2 arg3 harg3 arg4 harg4 arg5 harg5 arg6 harg6 arg7 arg8 arg9 =
      body arg0 arg1 harg1 arg2 arg3 harg3 arg4 harg4 arg5 harg5 arg6 harg6 arg7 arg8 arg9 := by
  rfl

end Steps

end Cert.KernelIdeal.AllToAll

end
-- ==== Proof.Protocol.lean ====
/-
The cross-device protocol of the kernel.

Sixteen devices; device `c` has a block of 4096 rows and 256 columns of `x`, which it rounds into its first
scratch buffer (the *row* buffer below, cut in sixteen groups of 256 rows). Its second scratch buffer (the *gathered*
buffer, cut in sixteen groups of 256 columns) receives, in its group of columns `j`, the rows of group `c` of
device `j`. The semaphores, who waits on each, who raises it, and what a raise hands over:

* the barrier of `c`: `c` waits for fifteen units before its sends. The device `r + 1` places on, `fwd c r`, raises it by
  one (duty `r`), handing over the columns `c` of its own gathered buffer, into which `c` is about to write.
* the semaphore of the weights: `c`'s own copy of the weights into scratch raises it; the copy hands back the array and the
  scratch buffer with the array's contents.
* the semaphore of the send `r`: raised as `c`'s block for `fwd c r` has left; it hands back the rows `fwd c r` of `c`'s row buffer.
* the semaphore of the receipt from `j ≠ c`: raised by `j`'s copy as it lands; it hands over the columns `j` of `c`'s gathered
  buffer, with the contents that the whole gathered buffer is to have.

Every semaphore is used for one round. Each device first raises the fifteen barriers, then waits on its own, then sends, then waits
for receipts and sends; a wait on a barrier happens while receipts are still owed, so receipts are ordered above barriers, and
no other wait happens while anything is owed.
-/
module

public import proofs.«01_k».proof.Proof.Prog
public import Idealize.ShloMosaic.Lib.Pipeline.Launch
public import Idealize.ShloMosaic.Lib.Pipeline.Kit
public import Idealize.ShloMosaic.Lib.Tactic

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's part (duties `Unit`) and the exchange's (duties `Fin 15`) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Partners, there and back -/

theorem bwd_fwd : ∀ (c : Dev nD) (r : Fin 15), bwd (fwd c r) r = c := by decide +kernel
theorem fwd_bwd : ∀ (c : Dev nD) (r : Fin 15), fwd (bwd c r) r = c := by decide +kernel
theorem fwd_fwd_rev : ∀ (c : Dev nD) (r : Fin 15), fwd (fwd c r) (Fin.rev r) = c := by decide +kernel
theorem fwd_ne : ∀ (c : Dev nD) (r : Fin 15), fwd c r ≠ c := by decide +kernel
theorem bwd_ne : ∀ (c : Dev nD) (r : Fin 15), bwd c r ≠ c := by decide +kernel
theorem fwd_injective (c : Dev nD) : Function.Injective (fwd c) := by revert c; decide +kernel
theorem bwd_injective (c : Dev nD) : Function.Injective (bwd c) := by revert c; decide +kernel
theorem erase_fwd : ∀ c : Dev nD, Finset.univ.erase c = Finset.univ.map ⟨fwd c, fwd_injective c⟩ := by decide +kernel
theorem erase_bwd : ∀ c : Dev nD, Finset.univ.erase c = Finset.univ.map ⟨bwd c, bwd_injective c⟩ := by decide +kernel

/-- One device and the fifteen that it sends to are all the devices; -/
theorem split_fwd {M : Type} [URA M] (c : Dev nD) (Φ : Dev nD → sProp M) :
    bigSep Finset.univ Φ = iprop(Φ c ∗ bigSep Finset.univ fun r => Φ (fwd c r)) := by
  rw [bigSep_univ_at Φ c, erase_fwd c, bigSep_map]; rfl

/-- so are one device and the fifteen that it receives from. -/
theorem split_bwd {M : Type} [URA M] (c : Dev nD) (Φ : Dev nD → sProp M) :
    bigSep Finset.univ Φ = iprop(Φ c ∗ bigSep Finset.univ fun r => Φ (bwd c r)) := by
  rw [bigSep_univ_at Φ c, erase_bwd c, bigSep_map]; rfl

/-! ## Semaphores -/

abbrev wS : DmaSem sig := cc0_scratch6.sem
/-- The sixteen send semaphores (the first is never used) and the sixteen receipt semaphores (a device's own is never used). -/
abbrev sS (j : Fin 16) : DmaSem sig := ⟨2 + j.val, Nat.lt_of_lt_of_le (Nat.add_lt_add_left j.isLt 2) (by decide)⟩
abbrev rS (j : Fin 16) : DmaSem sig := ⟨18 + j.val, Nat.lt_of_lt_of_le (Nat.add_lt_add_left j.isLt 18) (by decide)⟩

theorem sendS_eq : ∀ r : Fin 15, sendS cc0_scratch4 r = sS r.succ := by decide +kernel
theorem arriveS_eq : ∀ c : Dev nD, arriveS cc0_scratch5 c = rS c := by decide +kernel
theorem recvS_eq : ∀ (c : Dev nD) (r : Fin 15), recvS cc0_scratch5 c r = rS (bwd c r) := by decide +kernel

abbrev barCell (c : Dev nD) : GSem nD τ sig := ((c : Thread nD τ), .reg barS)
abbrev wCell (c : Dev nD) : GSem nD τ sig := ((c : Thread nD τ), .dma wS)
abbrev sCell (c : Dev nD) (j : Fin 16) : GSem nD τ sig := ((c : Thread nD τ), .dma (sS j))
abbrev rCell (c : Dev nD) (j : Fin 16) : GSem nD τ sig := ((c : Thread nD τ), .dma (rS j))

/-- What a semaphore is for. -/
inductive Kind
  | bar | wts | send (j : Fin 16) | recv (j : Fin 16) | other
deriving DecidableEq

def kindOf : SemLoc sig → Kind
  | .reg _ => .bar
  | .dma q =>
    if q = wS then .wts
    else if h : 2 ≤ q.val ∧ q.val < 18 then .send ⟨q.val - 2, by omega⟩
    else if h : 18 ≤ q.val ∧ q.val < 34 then .recv ⟨q.val - 18, by omega⟩
    else .other

theorem kind_bar : kindOf (.reg barS) = .bar := rfl
theorem kind_wts : kindOf (.dma wS) = .wts := by decide +kernel
theorem kind_send : ∀ j, kindOf (.dma (sS j)) = .send j := by decide +kernel
theorem kind_recv : ∀ j, kindOf (.dma (rS j)) = .recv j := by decide +kernel

/-! ## Buffers, whole and in parts -/

/-- The credit of one block of 256 by 256; of the weights. -/
def N : ℕ := (sendDst (Memref.whole cc0_scratch1) 0).view.dmaCredit
def NW : ℕ := (Memref.whole cc0_scratch2 : Memref sig .tc .vmem S4096x2048 .f32).view.dmaCredit
theorem N_pos : 0 < N := View.dmaCredit_pos _ (by decide)
theorem NW_pos : 0 < NW := View.dmaCredit_pos _ (by decide)

/-- The group of columns `j` of the gathered buffer; of rows `j` of the row buffer. -/
def colSet (j : Fin 16) : Finset S256x4096.Idx := Finset.univ.filter fun i => 256 * j.val ≤ (i 1).val ∧ (i 1).val < 256 * j.val + 256
def rowSet (j : Fin 16) : Finset S4096x256.Idx := Finset.univ.filter fun i => 256 * j.val ≤ (i 0).val ∧ (i 0).val < 256 * j.val + 256

theorem colSet_disjoint (j j' : Fin 16) (h : j ≠ j') : Disjoint (colSet j) (colSet j') := by
  refine Finset.disjoint_left.mpr fun i h1 h2 => h (Fin.ext ?_)
  have h1 := (Finset.mem_filter.mp h1).2
  have h2 := (Finset.mem_filter.mp h2).2
  omega

theorem rowSet_disjoint (j j' : Fin 16) (h : j ≠ j') : Disjoint (rowSet j) (rowSet j') := by
  refine Finset.disjoint_left.mpr fun i h1 h2 => h (Fin.ext ?_)
  have h1 := (Finset.mem_filter.mp h1).2
  have h2 := (Finset.mem_filter.mp h2).2
  omega

/-- The group that a row or a column is in. -/
def grp (n : Fin 4096) : Fin 16 := ⟨n.val / 256, by have := n.isLt; omega⟩

theorem colSet_cover : Finset.univ.biUnion colSet = Finset.univ := by
  refine Finset.eq_univ_iff_forall.mpr fun i => Finset.mem_biUnion.mpr ⟨grp (i 1), Finset.mem_univ _, Finset.mem_filter.mpr ⟨Finset.mem_univ _, ?_⟩⟩
  dsimp only [grp]; omega

theorem rowSet_cover : Finset.univ.biUnion rowSet = Finset.univ := by
  refine Finset.eq_univ_iff_forall.mpr fun i => Finset.mem_biUnion.mpr ⟨grp (i 0), Finset.mem_univ _, Finset.mem_filter.mpr ⟨Finset.mem_univ _, ?_⟩⟩
  dsimp only [grp]; omega

/-! ## Contents -/

/-- A place in a block of the row buffer. -/
def rowIx (j : Fin 16) (x : S256x256.Idx) : S4096x256.Idx := fun
  | 0 => ⟨256 * j.val + (x 0).val, by have h := (x 0).isLt; have := j.isLt; change _ < 256 at h; change _ < 4096; omega⟩
  | 1 => x 1

/-- A place in a group of rows of the weights. -/
def wtIx (j : Fin 16) (x : S256x2048.Idx) : S4096x2048.Idx := fun
  | 0 => ⟨256 * j.val + (x 0).val, by have h := (x 0).isLt; have := j.isLt; change _ < 256 at h; change _ < 4096; omega⟩
  | 1 => x 1

/-- A place in a group of columns of the gathered buffer, by the place within its group. -/
def colIx (i : S256x4096.Idx) : S256x256.Idx := fun
  | 0 => i 0
  | 1 => ⟨(i 1).val % 256, Nat.mod_lt _ (by decide)⟩

/-- Device `c`'s block of `x` as staged; -/
def xstg (c : Dev nD) : (cc0_stg0_0 : Ref sig .tc).ty.Contents (Elt F) :=
  (win0_0.blk (0 : Fin 1)).view.read (Elt F) ((s₀ m ρ).mem ((c : Thread nD τ).loc main_arg0))

/-- rounded; -/
def xb (c : Dev nD) : S4096x256.Idx → Elt F .bf16 := k0_pay1 (xstg m ρ c)

/-- the weights; -/
def wt (c : Dev nD) : S4096x2048.Idx → Elt F .f32 := (s₀ m ρ).mem ((c : Thread nD τ).loc main_arg1)

/-- rounded. -/
def wb (c : Dev nD) : S4096x2048.Idx → Elt F .bf16 := k0_pay3 (wt m ρ c)

/-- The rows of device `j`'s block that go to device `c`; -/
def ablk (c j : Dev nD) : S256x256.Idx → Elt F .bf16 := fun x => xb m ρ j (rowIx c x)

/-- the rows of the weights that they are multiplied with. -/
def wblk (c j : Dev nD) : S256x2048.Idx → Elt F .bf16 := fun x => wb m ρ c (wtIx j x)

/-- The gathered buffer of device `c` when all has arrived. -/
def XR (c : Dev nD) : S256x4096.Idx → Elt F .bf16 := fun i => ablk m ρ c (grp (i 1)) (colIx i)

/-- The sum after the device's own part and the receipts `l`. -/
def accAt (c : Dev nD) (l : List (Fin 15)) : S256x2048.Idx → Elt F .f32 :=
  l.foldl (fun a r => k0_pay5 a (ablk m ρ c (bwd c r)) (wblk m ρ c (bwd c r))) (k0_pay4 (ablk m ρ c c) (wblk m ρ c c))

/-- The result of device `c`. -/
def outAt (c : Dev nD) : (cc0_stg1_0 : Ref sig .tc).ty.Contents (Elt F) := k0_pay22 (accAt m ρ c (List.finRange 15))

/-! ## Ownership of the parts -/

def xrow (c j : Dev nD) (f : Buf (Elt F) ((c : Thread nD τ).loc cc0_scratch1)) : sProp 𝕄 :=
  ((c : Thread nD τ).loc cc0_scratch1) ↦[colSet j]{fullShare} f
def xbf (c j : Dev nD) (f : Buf (Elt F) ((c : Thread nD τ).loc cc0_scratch0)) : sProp 𝕄 :=
  ((c : Thread nD τ).loc cc0_scratch0) ↦[rowSet j]{fullShare} f

omit [FloatOps F] in
instance xrow_storable (c j : Dev nD) (f) : BI.Storable (upEmb : UEmb _ 𝕄) (xrow (F := F) c j f) := by unfold xrow; infer_instance
omit [FloatOps F] in
instance xbf_storable (c j : Dev nD) (f) : BI.Storable (upEmb : UEmb _ 𝕄) (xbf (F := F) c j f) := by unfold xbf; infer_instance

def barPay (c : Dev nD) (r : Fin 15) : sProp 𝕄 := iprop(∃ f, xrow (F := F) (fwd c r) c f)
def wPay (c : Dev nD) : sProp 𝕄 :=
  iprop((((c : Thread nD τ).loc cc0_scratch2) ↦{fullShare} wt m ρ c) ∗ (((c : Thread nD τ).loc main_arg1) ↦{fullShare} wt m ρ c))
def sendPay (c j : Dev nD) : sProp 𝕄 := xbf c j (xb m ρ c)
def recvPay (c j : Dev nD) : sProp 𝕄 := xrow c j (XR m ρ c)

/-! ## The schedule -/

def sched : Rounds.Schedule (GSem nD τ sig) (Fin 15) 𝕄 where
  duties g r := if r = 0 then
      match kindOf g.2 with
      | .bar => Finset.univ
      | .wts => {0}
      | .send j => if j = 0 then ∅ else {0}
      | .recv j => if j = g.1.1 then ∅ else {0}
      | .other => ∅
    else ∅
  unitless _ := False
  amount g _ _ := match kindOf g.2 with
    | .bar => 1
    | .wts => NW
    | _ => N
  payload g _ d := match kindOf g.2 with
    | .bar => barPay g.1.1 d
    | .wts => wPay m ρ g.1.1
    | .send j => sendPay m ρ g.1.1 ⟨(g.1.1.val + j.val) % 16, Nat.mod_lt _ (by decide)⟩
    | .recv j => recvPay m ρ g.1.1 j
    | .other => iprop(emp)
  amount_pos g _ _ _ := by
    cases kindOf g.2 <;> dsimp only <;> first | exact Nat.one_pos | with_reducible exact NW_pos | with_reducible exact N_pos

instance sched_payload_storable (g : GSem nD τ sig) (r : ℕ) (d : Fin 15) :
    BI.Storable (upEmb : UEmb _ 𝕄) ((sched (F := F) m ρ).payload g r d) := by
  dsimp only [sched]
  cases kindOf g.2 <;> dsimp only [barPay, wPay, sendPay, recvPay] <;> infer_instance

section Sched
variable (c : Dev nD)

theorem duties_later (g : GSem nD τ sig) : ∀ r, 1 ≤ r → (sched (F := F) m ρ).duties g r = ∅ :=
  fun r hr => by dsimp only [sched]; rw [if_neg (by omega)]

theorem duties_bar : (sched (F := F) m ρ).duties (barCell c) 0 = Finset.univ := rfl
theorem duties_wts : (sched (F := F) m ρ).duties (wCell c) 0 = {0} := by
  dsimp only [sched]; rw [kind_wts, if_pos rfl]
theorem duties_send (r : Fin 15) : (sched (F := F) m ρ).duties (sCell c r.succ) 0 = {0} := by
  dsimp only [sched]; rw [kind_send, if_pos rfl]; exact if_neg (Fin.succ_ne_zero r)
theorem duties_send0 : ∀ n, (sched (F := F) m ρ).duties (sCell c 0) n = ∅ := fun n => by
  dsimp only [sched]; rw [kind_send]; simp
theorem duties_recv (j : Fin 16) (h : j ≠ c) : (sched (F := F) m ρ).duties (rCell c j) 0 = {0} := by
  dsimp only [sched]; rw [kind_recv, if_pos rfl]; exact if_neg h
theorem duties_recv_self : ∀ n, (sched (F := F) m ρ).duties (rCell c c) n = ∅ := fun n => by
  dsimp only [sched]; rw [kind_recv]; simp

theorem amount_bar (d : Fin 15) : (sched (F := F) m ρ).amount (barCell c) 0 d = 1 := rfl
theorem amount_wts (d : Fin 15) : (sched (F := F) m ρ).amount (wCell c) 0 d = NW := by dsimp only [sched]; rw [kind_wts]
theorem amount_send (j : Fin 16) (d : Fin 15) : (sched (F := F) m ρ).amount (sCell c j) 0 d = N := by dsimp only [sched]; rw [kind_send]
theorem amount_recv (j : Fin 16) (d : Fin 15) : (sched (F := F) m ρ).amount (rCell c j) 0 d = N := by dsimp only [sched]; rw [kind_recv]

theorem payload_bar (d : Fin 15) : (sched (F := F) m ρ).payload (barCell c) 0 d = barPay c d := rfl
theorem payload_wts (d : Fin 15) : (sched (F := F) m ρ).payload (wCell c) 0 d = wPay m ρ c := by dsimp only [sched]; rw [kind_wts]
theorem payload_send (r d : Fin 15) : (sched (F := F) m ρ).payload (sCell c r.succ) 0 d = sendPay m ρ c (fwd c r) := by
  dsimp only [sched]; rw [kind_send]; rfl
theorem payload_recv (j : Fin 16) (d : Fin 15) : (sched (F := F) m ρ).payload (rCell c j) 0 d = recvPay m ρ c j := by
  dsimp only [sched]; rw [kind_recv]

theorem expect_bar : (sched (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_wts : (sched (F := F) m ρ).expect (wCell c) 0 = NW := by
  unfold Schedule.expect Schedule.amountOf; rw [duties_wts, Finset.sum_singleton, amount_wts]
theorem expect_send (r : Fin 15) : (sched (F := F) m ρ).expect (sCell c r.succ) 0 = N := by
  unfold Schedule.expect Schedule.amountOf; rw [duties_send, Finset.sum_singleton, amount_send]
theorem expect_recv (j : Fin 16) (h : j ≠ c) : (sched (F := F) m ρ).expect (rCell c j) 0 = N := by
  unfold Schedule.expect Schedule.amountOf; rw [duties_recv m ρ c j h, Finset.sum_singleton, amount_recv]

/-! What a wait for the whole round takes. -/

theorem rest_bar : bigSep ((sched (F := F) m ρ).duties (barCell c) 0 \ ∅) (fun d => (sched (F := F) m ρ).payload (barCell c) 0 d)
    = bigSep Finset.univ fun r => barPay (F := F) c r := by
  rw [Finset.sdiff_empty, duties_bar]; rfl
theorem rest_wts : bigSep ((sched (F := F) m ρ).duties (wCell c) 0 \ ∅) (fun d => (sched (F := F) m ρ).payload (wCell c) 0 d) = wPay m ρ c := by
  rw [Finset.sdiff_empty, duties_wts, bigSep_singleton, payload_wts]
theorem rest_send (r : Fin 15) : bigSep ((sched (F := F) m ρ).duties (sCell c r.succ) 0 \ ∅) (fun d => (sched (F := F) m ρ).payload (sCell c r.succ) 0 d)
    = sendPay m ρ c (fwd c r) := by
  rw [Finset.sdiff_empty, duties_send, bigSep_singleton, payload_send]
theorem rest_recv (j : Fin 16) (h : j ≠ c) : bigSep ((sched (F := F) m ρ).duties (rCell c j) 0 \ ∅) (fun d => (sched (F := F) m ρ).payload (rCell c j) 0 d)
    = recvPay m ρ c j := by
  rw [Finset.sdiff_empty, duties_recv m ρ c j h, bigSep_singleton, payload_recv]

end Sched

/-! ## What a device owes; the levels -/

/-- A debt of `n` to each of the cells at the places `l`. -/
def owedOn (cell : Fin 15 → GSem nD τ sig) (n : ℕ) (l : List (Fin 15)) : CellTallies nD τ sig Unit := (l.map fun r => tallyAt (cell r) () n).sum

theorem owedOn_nil (cell : Fin 15 → GSem nD τ sig) (n : ℕ) : owedOn cell n [] = 0 := rfl
theorem owedOn_cons (cell : Fin 15 → GSem nD τ sig) (n : ℕ) (r : Fin 15) (l : List (Fin 15)) :
    owedOn cell n (r :: l) = owedOn cell n l + tallyAt (cell r) () n := by
  unfold owedOn; rw [List.map_cons, List.sum_cons, add_comm]

theorem owedOn_pos {cell : Fin 15 → GSem nD τ sig} {n : ℕ} {g : GSem nD τ sig} {u : Unit} :
    ∀ {l : List (Fin 15)}, 0 < owedOn cell n l g u → ∃ r, g = cell r
  | [], h => absurd h (Nat.lt_irrefl 0)
  | r :: l, h => by
    rw [owedOn_cons, Pi.add_apply, Finsupp.add_apply, tallyAt_apply] at h
    by_cases hr : g = cell r ∧ u = ()
    · exact ⟨r, hr.1⟩
    · rw [if_neg hr] at h; exact owedOn_pos h

/-- The barriers that device `c` raises, the receipts that it causes. -/
abbrev sigCell (c : Dev nD) (r : Fin 15) : GSem nD τ sig := barCell (fwd c r)
abbrev arrCell (c : Dev nD) (r : Fin 15) : GSem nD τ sig := rCell (fwd c r) c

/-- What device `c` owes at launch. -/
def O₀ (c : Dev nD) : CellTallies nD τ sig Unit := owedOn (arrCell c) N (List.finRange 15) + owedOn (sigCell c) 1 (List.finRange 15)

def L (g : GSem nD τ sig) : Finset Unit := if g.1.2 = .tc then {()} else ∅
def lv (g : GSem nD τ sig) (_ : Unit) : ℕ := match kindOf g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (c : Dev nD) (j : Fin 16) (u : Unit) : lv (rCell c j) u = 2 := by unfold lv; rw [kind_recv]

theorem O₀_pos {c : Dev nD} {g : GSem nD τ sig} {u : Unit} (h : 0 < O₀ c g u) : (∃ r, g = arrCell c r) ∨ ∃ r, g = sigCell c r := by
  unfold O₀ at h
  rw [Pi.add_apply, Finsupp.add_apply] at h
  rcases Nat.add_pos_iff_pos_or_pos.mp h with h | h
  · exact .inl (owedOn_pos h)
  · exact .inr (owedOn_pos h)

omit [FloatOps F] in
/-- A staging semaphore may be waited on while all is owed, or nothing. -/
theorem mayWait_stage (c : Dev nD) (q : DmaSem sig) (hq : kindOf (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨r, rfl⟩ | ⟨r, rfl⟩ <;> exact Finset.mem_singleton_self _)
      (fun p hp => by rw [Finset.mem_singleton.mp hp]; dsimp only [lv]; rw [hq])
      (fun g u hg => by
        rcases O₀_pos hg with ⟨r, rfl⟩ | ⟨r, rfl⟩
        · rw [lv_recv]; decide
        · rw [lv_bar]; decide)
  · rw [MayWait_zero]; iintro -; iempintro

omit [FloatOps F] in
/-- At its barrier a device owes receipts only, which are above it. -/
theorem mayWait_bar (c : Dev nD) :
    (levAts L lv : sProp 𝕄) ⊢ MayWait (c : Thread nD τ) (.reg barS) () (owedOn (arrCell c) N (List.finRange 15)) :=
  MayOwe.of_cut (L := L) (lev := lv) 1 (fun p hp => by rw [Finset.mem_singleton.mp hp, L_tc]; exact Finset.mem_singleton_self _)
    (fun g u hg => by obtain ⟨r, rfl⟩ := owedOn_pos hg; exact Finset.mem_singleton_self _)
    (fun p hp => by rw [Finset.mem_singleton.mp hp, lv_bar])
    (fun g u hg => by obtain ⟨r, rfl⟩ := owedOn_pos hg; rw [lv_recv]; decide)

end Cert.KernelIdeal.AllToAll

end
-- ==== Proof.Windows.lean ====
/-
What the kernel's windows onto its buffers are: the places under each, what is read through it, what a write through it leaves.
-/
module

public import proofs.«01_k».proof.Proof.Protocol

@[expose] public section

noncomputable section

namespace Cert.KernelIdeal.AllToAll

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

abbrev rowV (o : Fin 2 → ℕ) (inb : ∀ a, o a + S256x256.size a ≤ S4096x256.size a) :=
  (View.whole cc0_scratch0 : View sig .tc _ _ _).slice (Rect.unit (s := S4096x256) o S256x256.size inb)
abbrev colV (o : Fin 2 → ℕ) (inb : ∀ a, o a + S256x256.size a ≤ S256x4096.size a) :=
  (View.whole cc0_scratch1 : View sig .tc _ _ _).slice (Rect.unit (s := S256x4096) o S256x256.size inb)
abbrev wtV (o : Fin 2 → ℕ) (inb : ∀ a, o a + S256x2048.size a ≤ S4096x2048.size a) :=
  (View.whole cc0_scratch3 : View sig .tc _ _ _).slice (Rect.unit (s := S4096x2048) o S256x2048.size inb)

variable {j : Fin 16} {o : Fin 2 → ℕ}

theorem rowV_set (h : o = ![256 * j.val, 0]) (inb) : (rowV o inb).set = rowSet j := by
  subst h
  refine (View.set_slice_whole _ _).trans (Finset.ext fun i => Rect.mem_set_unit.trans ?_)
  have h1 : (i 1).val < 256 := (i 1).isLt
  rw [rowSet, Finset.mem_filter]
  refine (Fin.forall_fin_two (p := fun a : Fin 2 => (![256 * j.val, 0] : Fin 2 → ℕ) a ≤ (i a).val ∧ (i a).val < (![256 * j.val, 0] : Fin 2 → ℕ) a + S256x256.size a)).trans ?_
  change (256 * j.val ≤ (i 0).val ∧ (i 0).val < 256 * j.val + 256) ∧ (0 ≤ (i 1).val ∧ (i 1).val < 0 + 256) ↔ _
  simp only [Finset.mem_univ, true_and]
  omega

theorem colV_set (h : o = ![0, 256 * j.val]) (inb) : (colV o inb).set = colSet j := by
  subst h
  refine (View.set_slice_whole _ _).trans (Finset.ext fun i => Rect.mem_set_unit.trans ?_)
  have h1 : (i 0).val < 256 := (i 0).isLt
  rw [colSet, Finset.mem_filter]
  refine (Fin.forall_fin_two (p := fun a : Fin 2 => (![0, 256 * j.val] : Fin 2 → ℕ) a ≤ (i a).val ∧ (i a).val < (![0, 256 * j.val] : Fin 2 → ℕ) a + S256x256.size a)).trans ?_
  change (0 ≤ (i 0).val ∧ (i 0).val < 0 + 256) ∧ (256 * j.val ≤ (i 1).val ∧ (i 1).val < 256 * j.val + 256) ↔ _
  simp only [Finset.mem_univ, true_and]
  omega

theorem rowV_emb (h : o = ![256 * j.val, 0]) (inb) (x : S256x256.Idx) : (rowV o inb).emb x = rowIx j x := by
  subst h
  funext a
  fin_cases a
  · exact Fin.ext (show 256 * j.val + 1 * (x 0).val = 256 * j.val + (x 0).val by omega)
  · exact Fin.ext (show 0 + 1 * (x 1).val = (x 1).val by omega)

theorem wtV_emb (h : o = ![256 * j.val, 0]) (inb) (x : S256x2048.Idx) : (wtV o inb).emb x = wtIx j x := by
  subst h
  funext a
  fin_cases a
  · exact Fin.ext (show 256 * j.val + 1 * (x 0).val = 256 * j.val + (x 0).val by omega)
  · exact Fin.ext (show 0 + 1 * (x 1).val = (x 1).val by omega)

theorem colV_grp (h : o = ![0, 256 * j.val]) (inb) (x : S256x256.Idx) : grp ((colV o inb).emb x 1) = j := by
  subst h
  have hx : (x 1).val < 256 := (x 1).isLt
  exact Fin.ext (show (256 * j.val + 1 * (x 1).val) / 256 = j.val by omega)

theorem colV_ix (h : o = ![0, 256 * j.val]) (inb) (x : S256x256.Idx) : colIx ((colV o inb).emb x) = x := by
  subst h
  have hx : (x 1).val < 256 := (x 1).isLt
  funext a
  fin_cases a
  · exact Fin.ext (show 0 + 1 * (x 0).val = (x 0).val by omega)
  · exact Fin.ext (show (256 * j.val + 1 * (x 1).val) % 256 = (x 1).val by omega)

/-- Reading rows, from contents of the row buffer; from the weights. -/
theorem rowV_read (h : o = ![256 * j.val, 0]) (inb) (f : S4096x256.Idx → Elt F .bf16) :
    (rowV o inb).read (Elt F) f = fun x => f (rowIx j x) :=
  funext fun x => (View.read_apply (v := rowV o inb) f x).trans (congrArg f (rowV_emb h inb x))

theorem wtV_read (h : o = ![256 * j.val, 0]) (inb) (f : S4096x2048.Idx → Elt F .bf16) :
    (wtV o inb).read (Elt F) f = fun x => f (wtIx j x) :=
  funext fun x => (View.read_apply (v := wtV o inb) f x).trans (congrArg f (wtV_emb h inb x))

/-- Reading a group of columns that holds what it is to hold. -/
theorem colV_read (h : o = ![0, 256 * j.val]) (inb) (c : Dev nD) (f : S256x4096.Idx → Elt F .bf16) (hf : ∀ i ∈ colSet j, f i = XR m ρ c i) :
    (colV o inb).read (Elt F) f = ablk m ρ c j := by
  funext x
  refine (View.read_apply (v := colV o inb) f x).trans ?_
  refine (hf _ (by rw [← colV_set h inb]; exact View.emb_mem_set _ x)).trans ?_
  unfold XR
  rw [colV_grp h inb x, colV_ix h inb x]

/-- A group of columns written with a block holds what it is to hold. -/
theorem colV_write (h : o = ![0, 256 * j.val]) (inb) (c : Dev nD) (f : S256x4096.Idx → Elt F .bf16) (w : S256x256.Idx → Elt F .bf16)
    (hw : w = ablk m ρ c j) : ∀ i ∈ colSet j, (colV o inb).write (Elt F) f w Finset.univ i = XR m ρ c i := by
  intro i hi
  rw [← colV_set h inb] at hi
  obtain ⟨x, -, rfl⟩ := Finset.mem_map.mp hi
  refine (View.write_emb_of_mem (v := colV o inb) f w (Finset.mem_univ x)).trans ?_
  subst hw
  unfold XR
  rw [colV_grp h inb x, colV_ix h inb x]; rfl

theorem zero2 : (![0, 0] : Fin 2 → Nat) = fun _ => 0 := funext fun a => by fin_cases a <;> rfl

/-- The rows that device `c` sends to `d` are those that `d` is to hold of `c`. -/
theorem ablk_of_read (c d : Dev nD) (h : o = ![256 * d.val, 0]) (inb) : (rowV o inb).read (Elt F) (xb m ρ c) = ablk m ρ d c :=
  rowV_read h inb _

end Cert.KernelIdeal.AllToAll

end
-- ==== Proof.Steps.lean ====
/-
The four loops of the body: the barrier's signals, the sends, the receipts, the waits for the sends. Each is proved for one
place and carried over the fifteen.
-/
module

public import proofs.«01_k».proof.Proof.Windows
public import Idealize.ShloMosaic.Lib.Pipeline.BigSepL

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a piece of the body on device `c`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A step proved at every place, repeated over a list of places: what a place needs and leaves, and the state it passes on. -/
theorem wp_each (c : Dev nD) (R : sProp 𝕄) [BI.Persistent R] (step : Fin 15 → PR F) (Pre Post : Fin 15 → sProp 𝕄) (St : List (Fin 15) → sProp 𝕄)
    (h : ∀ r l (Kt : sProp 𝕄), iprop(R ∗ Pre r ∗ St (r :: l) ∗ ((Post r ∗ St l) -∗ Kt)) ⊢ wpc c (step r) fun _ => Kt) :
    ∀ (l : List (Fin 15)) (Kt : sProp 𝕄), iprop(R ∗ bigSepL l Pre ∗ St l ∗ ((bigSepL l Post ∗ St []) -∗ Kt)) ⊢ wpc c (l.forM step) fun _ => Kt
  | [], Kt => by
    show _ ⊢ wpc c (pure ()) fun _ => Kt
    unfold wpc
    rw [wp_pure]
    iintro ⟨-, -, HS, HK⟩
    imodintro
    iapply HK
    isplitr; · iempintro
    iexact HS
  | r :: l, Kt => by
    show _ ⊢ wpc c (step r >>= fun _ => l.forM step) fun _ => Kt
    unfold wpc
    rw [wp_bind, bigSepL_cons', bigSepL_cons']
    iintro ⟨#HR, ⟨Hr, Hl⟩, HS, HK⟩
    iapply (h r l)
    isplitr; · iexact HR
    isplitl [Hr]; · iexact Hr
    isplitl [HS]; · iexact HS
    iintro ⟨Hp, HS⟩
    iapply (wp_each c R step Pre Post St h l Kt)
    isplitr; · iexact HR
    isplitl [Hl]; · iexact Hl
    isplitl [HS]; · iexact HS
    iintro ⟨Hq, HS⟩
    iapply HK
    isplitl [Hp Hq]
    · isplitl [Hp] <;> iassumption
    iexact HS

theorem places : (Finset.univ : Finset (Fin 15)) = (List.finRange 15).toFinset := by decide
theorem places_nodup : (List.finRange 15).Nodup := by decide

/-- The same over all the places. -/
theorem wp_each_univ (c : Dev nD) (R : sProp 𝕄) [BI.Persistent R] (step : Fin 15 → PR F) (Pre Post : Fin 15 → sProp 𝕄) (St : List (Fin 15) → sProp 𝕄)
    (h : ∀ r l (Kt : sProp 𝕄), iprop(R ∗ Pre r ∗ St (r :: l) ∗ ((Post r ∗ St l) -∗ Kt)) ⊢ wpc c (step r) fun _ => Kt) (Kt : sProp 𝕄) :
    iprop(R ∗ bigSep Finset.univ Pre ∗ St (List.finRange 15) ∗ ((bigSep Finset.univ Post ∗ St []) -∗ Kt)) ⊢ wpc c (each step) fun _ => Kt := by
  rw [bigSep_univ_eq_bigSepL _ places places_nodup Pre, bigSep_univ_eq_bigSepL _ places places_nodup Post]
  exact wp_each c R step Pre Post St h _ Kt

/-! ## The records: every cell's invariant and its first round reached -/

/-- The semaphores of one device that the protocol uses: of the kernel's own, and with the barrier's first. -/
abbrev Own := Unit ⊕ (Fin 16 ⊕ Fin 16)
abbrev Ck := Unit ⊕ Own

abbrev osem : Own → SemLoc sig
  | .inl _ => .dma wS
  | .inr (.inl j) => .dma (sS j)
  | .inr (.inr j) => .dma (rS j)
abbrev csem : Ck → SemLoc sig
  | .inl _ => .reg barS
  | .inr k => osem k
abbrev kcell (ck : Dev nD × Ck) : GSem nD τ sig := ((ck.1 : Thread nD τ), csem ck.2)

abbrev kBar : Ck := .inl ()
abbrev kW : Ck := .inr (.inl ())
abbrev kS (j : Fin 16) : Ck := .inr (.inr (.inl j))
abbrev kR (j : Fin 16) : Ck := .inr (.inr (.inr j))

def records (K : Dev nD × Ck → ℕ) : sProp 𝕄 :=
  iprop((bigSep Finset.univ fun ck : Dev nD × Ck => cellInv ER (sched m ρ) (K ck) (kcell ck))
    ∗ bigSep Finset.univ fun ck : Dev nD × Ck => reached ER (kcell ck) 0)

instance records_persistent (K : Dev nD × Ck → ℕ) : BI.Persistent (records m ρ K) := by unfold records; infer_instance

theorem rec_inv (K : Dev nD × Ck → ℕ) (ck : Dev nD × Ck) : records m ρ K ⊢ cellInv ER (sched m ρ) (K ck) (kcell ck) := by
  have h : (bigSep Finset.univ fun ck : Dev nD × Ck => cellInv ER (sched m ρ) (K ck) (kcell ck)) ⊢ cellInv ER (sched m ρ) (K ck) (kcell ck) :=
    bigSep_elim (Finset.mem_univ ck)
  unfold records; iintro ⟨H, -⟩; iapply h; iexact H
theorem rec_reached (K : Dev nD × Ck → ℕ) (ck : Dev nD × Ck) : records m ρ K ⊢ reached ER (kcell ck) 0 := by
  have h : (bigSep Finset.univ fun ck : Dev nD × Ck => (reached ER (kcell ck) 0 : sProp 𝕄)) ⊢ reached ER (kcell ck) 0 :=
    bigSep_elim (Finset.mem_univ ck)
  unfold records; iintro ⟨-, H⟩; iapply h; iexact H

variable (K : Dev nD × Ck → ℕ)

/-! ## The barrier's signals -/

def stSig (c : Dev nD) (l : List (Fin 15)) : sProp 𝕄 :=
  iprop(∃ W, owes (c : Thread nD τ) (owedOn (arrCell c) N (List.finRange 15) + owedOn (sigCell c) 1 l) W)
def preSig (c : Dev nD) (r : Fin 15) : sProp 𝕄 := iprop(dutyTok ER (sigCell c r) 0 (Fin.rev r) ∗ ∃ f, xrow (F := F) c (fwd c r) f)

theorem sig_step (c : Dev nD) (r : Fin 15) (l : List (Fin 15)) (Kt : sProp 𝕄) :
    iprop(records m ρ K ∗ preSig (F := F) c r ∗ stSig (F := F) c (r :: l) ∗ ((emp ∗ stSig (F := F) c l) -∗ Kt)) ⊢ wpc c (sigStep c r) fun _ => Kt := by
  unfold sigStep wpc semSignalWord stSig preSig
  rw [sigDev_eq, owedOn_cons, ← add_assoc]
  iintro ⟨#HR, ⟨Ht, Hx⟩, ⟨%W, HO⟩, HK⟩
  iapply (Rounds.wp_signal 𝒱₀ ER (sched m ρ) (c : Thread nD τ) none (dst := (fwd c r : Thread nD τ)) (κ := K (fwd c r, kBar))
      (d := Fin.rev r) (by rw [duties_bar]; exact Finset.mem_univ _) ((amount_bar m ρ (fwd c r) (Fin.rev r)).trans (by decide)) ()
      (owedOn (arrCell c) N (List.finRange 15) + owedOn (sigCell c) 1 l) rfl) $$ [HO Ht Hx]
  · isplitr; · iapply (rec_inv m ρ K (fwd c r, kBar)); iexact HR
    isplitl [HO]; · iexact HO
    isplitl [Ht]; · iexact Ht
    isplitl [Hx]
    · rw [payload_bar]; unfold barPay; rw [fwd_fwd_rev]; iexact Hx
    iapply (rec_reached m ρ K (fwd c r, kBar)); iexact HR
  iintro HO
  rw [wp_ret]; imodintro
  iapply HK
  isplitr; · iempintro
  iexists W; iexact HO

/-! ## The sends -/

/-- A group of rows of the row buffer, a group of columns of a gathered buffer, as a transfer names them. -/
abbrev rowM (o : Fin 2 → ℕ) (inb : ∀ a, o a + S256x256.size a ≤ S4096x256.size a) : Memref sig .tc .vmem S256x256 .bf16 :=
  (Memref.whole cc0_scratch0 : Memref sig .tc .vmem S4096x256 .bf16).slice (Rect.unit (s := S4096x256) o S256x256.size inb) (fun _ => rfl)
abbrev colM (o : Fin 2 → ℕ) (inb : ∀ a, o a + S256x256.size a ≤ S256x4096.size a) : Memref sig .tc .vmem S256x256 .bf16 :=
  (Memref.whole cc0_scratch1 : Memref sig .tc .vmem S256x4096 .bf16).slice (Rect.unit (s := S256x4096) o S256x256.size inb) (fun _ => rfl)

/-- One send, its windows and semaphores named by what they are. -/
theorem wp_send_blk (c n : Dev nD) (r : Fin 15) (hn : n = fwd c r) (qs qa : DmaSem sig) (hs : qs = sS r.succ) (ha : qa = rS c)
    (os od : Fin 2 → ℕ) (inbs : ∀ a, os a + S256x256.size a ≤ S4096x256.size a) (inbd : ∀ a, od a + S256x256.size a ≤ S256x4096.size a)
    (hos : os = ![256 * (fwd c r).val, 0]) (hod : od = ![0, 256 * c.val])
    {hsc : (colM od inbd).view.ref.isScScratch = false}
    {hsrc : (rowM os inbs).view.WordExact}
    {hdst : (colM od inbd).view.WordExact}
    {hsem : DmaTarget.Typed .vmem (.dma qa) (.remote (Dev.tc n : Thread nD τ) (colM od inbd) (.dma qs) hsc)}
    {α : Type} {Q : α → sProp 𝕄} {k : PUnit → Prog (TpuEff nD τ sig (Elt F) Λ₀ .tc) α}
    (fn : Buf (Elt F) ((fwd c r : Thread nD τ).loc cc0_scratch1)) (l : List (Fin 15)) (W : Waits sig Unit) :
    iprop(cellInv ER (sched m ρ) (K (c, kS r.succ)) (sCell c r.succ) ∗ cellInv ER (sched m ρ) (K (fwd c r, kR c)) (rCell (fwd c r) c)
        ∗ xbf c (fwd c r) (xb m ρ c) ∗ xrow (fwd c r) c fn
        ∗ owes (c : Thread nD τ) (owedOn (arrCell c) N (r :: l)) W
        ∗ dutyTok ER (sCell c r.succ) 0 0 ∗ reached ER (sCell c r.succ) 0
        ∗ dutyTok ER (rCell (fwd c r) c) 0 0 ∗ reached ER (rCell (fwd c r) c) 0)
      ⊢ iprop(((cred (tallyAt (sCell c r.succ) () N) ∗ owes (c : Thread nD τ) (owedOn (arrCell c) N l) W) -∗ wpc c (k ⟨⟩) Q)
          -∗ wpc c (.op (.enqueueDma (rowM os inbs)
            (.remote (Dev.tc n : Thread nD τ) (colM od inbd) (.dma qs) hsc) (.dma qa) hsrc hdst hsem) k) Q) := by
  subst hn hs ha
  unfold xbf xrow
  rw [← rowV_set hos inbs, ← colV_set hod inbd]
  exact Rounds.wp_send_pointsTo 𝒱₀ ER (sched m ρ) (c : Thread nD τ) none (κ₁ := K (c, kS r.succ)) (κ₂ := K (fwd c r, kR c))
    (c' := (fwd c r : Thread nD τ)) (src := rowM os inbs) (dst := colM od inbd) (fs := xb m ρ c) (fd := fn)
    (r₁ := 0) (r₂ := 0) (d₁ := 0) (d₂ := 0)
    (by rw [duties_send]; exact Finset.mem_singleton_self _) (by rw [duties_recv m ρ _ _ (fwd_ne c r).symm]; exact Finset.mem_singleton_self _)
    () () N rfl (amount_send m ρ c r.succ 0) (amount_recv m ρ (fwd c r) c 0) (owedOn (arrCell c) N l) (owedOn_cons _ _ _ _) (W := W)
    (by rw [payload_send]; unfold sendPay xbf; rw [← rowV_set hos inbs])
    (by
      rw [payload_recv]; unfold recvPay xrow
      rw [← colV_set hod inbd]
      refine Entails.of_eq (pointsTo_congr fun i hi => ?_)
      rw [colV_set hod inbd] at hi
      exact colV_write m ρ hod inbd (fwd c r) fn _ (ablk_of_read m ρ c (fwd c r) hos inbs) i hi)

def stSend (c : Dev nD) (l : List (Fin 15)) : sProp 𝕄 := iprop(∃ W, owes (c : Thread nD τ) (owedOn (arrCell c) N l) W)
def preSend (c : Dev nD) (r : Fin 15) : sProp 𝕄 :=
  iprop(dutyTok ER (sCell c r.succ) 0 0 ∗ dutyTok ER (rCell (fwd c r) c) 0 0 ∗ xbf c (fwd c r) (xb m ρ c) ∗ barPay (F := F) c r)

theorem send_step (c : Dev nD) (r : Fin 15) (l : List (Fin 15)) (Kt : sProp 𝕄) :
    iprop(records m ρ K ∗ preSend m ρ c r ∗ stSend (F := F) c (r :: l) ∗ ((cred (tallyAt (sCell c r.succ) () N) ∗ stSend (F := F) c l) -∗ Kt))
      ⊢ wpc c (sendStep (Memref.whole cc0_scratch0) (Memref.isWhole_whole _) (Memref.whole cc0_scratch1) (Memref.isWhole_whole _) cc0_scratch4 cc0_scratch5 c r) fun _ => Kt := by
  unfold sendStep stSend preSend barPay Prog.lift
  iintro ⟨#HR, ⟨Hts, Htr, Hx, ⟨%fn, Hd⟩⟩, ⟨%W, HO⟩, HK⟩
  iapply (wp_send_blk m ρ K c _ r (sendDev_eq r c) _ _ (sendS_eq r) (arriveS_eq c) _ _ (k0_off5_inb c r) (k0_off4_inb c) (off5_eq c r) (k0_off4_eq c) fn l W) $$ [Hts Htr Hx Hd HO]
  · isplitr; · iapply (rec_inv m ρ K (c, kS r.succ)); iexact HR
    isplitr; · iapply (rec_inv m ρ K (fwd c r, kR c)); iexact HR
    isplitl [Hx]; · iexact Hx
    isplitl [Hd]; · iexact Hd
    isplitl [HO]; · iexact HO
    isplitl [Hts]; · iexact Hts
    isplitr; · iapply (rec_reached m ρ K (c, kS r.succ)); iexact HR
    isplitl [Htr]; · iexact Htr
    iapply (rec_reached m ρ K (fwd c r, kR c)); iexact HR
  iintro ⟨Hc, HO⟩
  unfold wpc
  rw [wp_ret]; imodintro
  iapply HK
  isplitl [Hc]; · iexact Hc
  iexists W; iexact HO

/-! ## The waits for the sends -/

def stZero (c : Dev nD) : sProp 𝕄 := iprop(∃ W, owes (c : Thread nD τ) 0 W)
def preSent (c : Dev nD) (r : Fin 15) : sProp 𝕄 := iprop(cred (tallyAt (sCell c r.succ) () N) ∗ atPos ER (sCell c r.succ) 0 ∅ 0)
def postSent (c : Dev nD) (r : Fin 15) : sProp 𝕄 := iprop(xbf c (fwd c r) (xb m ρ c) ∗ semVal (sCell c r.succ) 0)

theorem sent_step (c : Dev nD) (r : Fin 15) (Kt : sProp 𝕄) :
    iprop(records m ρ K ∗ preSent (F := F) c r ∗ stZero (F := F) c ∗ ((postSent m ρ c r ∗ stZero (F := F) c) -∗ Kt))
      ⊢ wpc c (sentStep (Memref.whole cc0_scratch0) (Memref.isWhole_whole _) (Memref.whole cc0_scratch1) (Memref.isWhole_whole _) cc0_scratch4 c r) fun _ => Kt := by
  unfold sentStep stZero preSent postSent Prog.lift
  rw [sendS_eq]
  iintro ⟨#HR, ⟨Hc, Hat⟩, ⟨%W, HO⟩, HK⟩
  unfold wpc
  iapply (Rounds.wp_wait_rest_token 𝒱₀ ER (sched m ρ) (c : Thread nD τ) none (κ := K (c, kS r.succ))
      (wpE_waitDma2_eq 𝒱₀ (c : Thread nD τ) none Set.univ) (Set.mem_univ _) () (O := 0) (W := W) (R := 0) (m := 0) (T := ∅)
      (by rw [Nat.zero_add, expect_send]; rfl)) $$ [Hc HO Hat]
  · isplitr; · iapply (rec_inv m ρ K (c, kS r.succ)); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c r)) $$ Hpay
  imod (Rounds.cell_close ER (sched m ρ) (Set.mem_univ (K (c, kS r.succ))) (fun h => h) (R := 0 + 1) (duties_later m ρ (sCell c r.succ))) $$ [Hat] with Hz
  · isplitr; · iapply (rec_inv m ρ K (c, kS r.succ)); iexact HR
    iexact Hat
  rw [wp_ret]; imodintro
  iapply HK
  isplitl [Hp Hz]
  · unfold sendPay
    isplitl [Hp] <;> iassumption
  iexists _; iexact HO

end Cert.KernelIdeal.AllToAll

end
-- ==== Proof.Phases.lean ====
/-
The rest of the body: the fetch of the weights and the rounding of the block, the device's own part of the product, one
receipt, the activation.
-/
module

public import proofs.«01_k».proof.Proof.Steps
public import Idealize.ShloMosaic.Lib.Pipeline.Value

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

/-- A whole buffer of device `c`, with its contents. -/
abbrev own1 (c : Dev nD) (b : Ref sig .tc) (f : Buf (Elt F) ((c : Thread nD τ).loc b)) : sProp 𝕄 := ((c : Thread nD τ).loc b) ↦{fullShare} f

abbrev stg0M : Memref sig .tc .vmem S4096x256 .f32 := Memref.whole cc0_stg0_0
abbrev outM : Memref sig .tc .vmem S256x2048 .f32 := Memref.whole cc0_stg1_0
abbrev wtM : Memref sig .tc .hbm S4096x2048 .f32 := Memref.whole main_arg1
abbrev xbM : Memref sig .tc .vmem S4096x256 .bf16 := Memref.whole cc0_scratch0
abbrev xrM : Memref sig .tc .vmem S256x4096 .bf16 := Memref.whole cc0_scratch1
abbrev wfM : Memref sig .tc .vmem S4096x2048 .f32 := Memref.whole cc0_scratch2
abbrev wbM : Memref sig .tc .vmem S4096x2048 .bf16 := Memref.whole cc0_scratch3

/-- Whole rectangles. -/
abbrev zXb : Rect S4096x256 := Rect.unit (s := S4096x256) ![0, 0] S4096x256.size inb_S4096x256_S4096x256_0_0
abbrev zWt : Rect S4096x2048 := Rect.unit (s := S4096x2048) ![0, 0] S4096x2048.size inb_S4096x2048_S4096x2048_0_0
abbrev zOut : Rect S256x2048 := Rect.unit (s := S256x2048) ![0, 0] S256x2048.size inb_S256x2048_S256x2048_0_0
abbrev rWts (o : Fin 2 → ℕ) (inb : ∀ a, o a + S256x2048.size a ≤ S4096x2048.size a) : Rect S4096x2048 := Rect.unit (s := S4096x2048) o S256x2048.size inb
abbrev rRow (o : Fin 2 → ℕ) (inb : ∀ a, o a + S256x256.size a ≤ S4096x256.size a) : Rect S4096x256 := Rect.unit (s := S4096x256) o S256x256.size inb
abbrev rCol (o : Fin 2 → ℕ) (inb : ∀ a, o a + S256x256.size a ≤ S256x4096.size a) : Rect S256x4096 := Rect.unit (s := S256x4096) o S256x256.size inb

/-! ## The start -/

/-- The copy of the weights. -/
theorem wp_fetch (c : Dev nD) (f2 : Buf (Elt F) ((c : Thread nD τ).loc cc0_scratch2))
    {hsrc : wtM.view.WordExact} {hdst : wfM.view.WordExact} {hsem : DmaTarget.Typed (nD := nD) (τ := τ) (p := .tc) .hbm (.dma wS) (.here wfM)}
    {α : Type} {Q : α → sProp 𝕄} {k : PUnit → Prog (TpuEff nD τ sig (Elt F) Λ₀ .tc) α} :
    iprop(cellInv ER (sched m ρ) (K (c, kW)) (wCell c) ∗ own1 c main_arg1 (wt m ρ c) ∗ own1 c cc0_scratch2 f2 ∗ dutyTok ER (wCell c) 0 0 ∗ reached ER (wCell c) 0)
      ⊢ iprop((cred (tallyAt (wCell c) () NW) -∗ wpc c (k ⟨⟩) Q) -∗ wpc c (.op (.enqueueDma wtM (.here wfM) (.dma wS) hsrc hdst hsem) k) Q) := by
  have hset : ∀ b : Ref sig .tc, (Memref.whole b : Memref sig .tc _ _ _).view.set = Finset.univ := fun b => View.set_whole b
  have key := Rounds.wp_copy_pointsTo 𝒱₀ ER (sched m ρ) (c : Thread nD τ) none (defs := defs₀ (F := F)) (Q := Q) (k := k) (κ := K (c, kW)) (src := wtM) (dst := wfM) (hsrc := hsrc) (hdst := hdst) (hsem := hsem)
    (fs := wt m ρ c) (fd := f2) (r := 0) (d := 0) (q := fullShare) (Es := Set.univ) (Γ := PendingWaitsCtx.empty)
    (by rw [duties_wts]; exact Finset.mem_singleton_self _) () NW rfl (amount_wts m ρ c 0)
    (by
      rw [payload_wts, hset, hset]; unfold wPay
      rw [show wfM.view.write (Elt F) f2 (wtM.view.read (Elt F) (wt m ρ c)) Finset.univ = wt m ρ c from View.write_whole_univ _ _ _]
      )
  rw [hset, hset] at key
  exact key

set_option maxHeartbeats 400000 in
theorem start_spec (c : Dev nD) (f0 : Buf (Elt F) ((c : Thread nD τ).loc cc0_scratch0)) (f1 : Buf (Elt F) ((c : Thread nD τ).loc cc0_scratch1))
    (f2 : Buf (Elt F) ((c : Thread nD τ).loc cc0_scratch2)) (Kt : sProp 𝕄) :
    iprop(records m ρ K ∗ dutyTok ER (wCell c) 0 0 ∗ own1 c main_arg1 (wt m ρ c) ∗ own1 c cc0_scratch2 f2 ∗ own1 c cc0_stg0_0 (xstg m ρ c)
        ∗ own1 c cc0_scratch0 f0 ∗ own1 c cc0_scratch1 f1
        ∗ ((cred (tallyAt (wCell c) () NW) ∗ own1 c cc0_stg0_0 (xstg m ρ c) ∗ own1 c cc0_scratch0 (xb m ρ c)
            ∗ ∃ g : Buf (Elt F) ((c : Thread nD τ).loc cc0_scratch1), ⌜∀ i ∈ colSet c, g i = XR m ρ c i⌝ ∗ own1 c cc0_scratch1 g) -∗ Kt))
      ⊢ wpc c (start stg0M wtM (Memref.isWhole_whole _) xbM (Memref.isWhole_whole _) xrM (Memref.isWhole_whole _) wfM (Memref.isWhole_whole _) cc0_scratch6 c) fun _ => Kt := by
  unfold start wpc own1
  simp only [Prog.lift, Prog.bind_op, Prog.bind_ret, Prog.pure_eq_ret]
  iintro ⟨#HR, Ht, Hw, Hs2, Hst, Hs0, Hs1, HK⟩
  iapply (wp_fetch m ρ K c f2) $$ [Ht Hw Hs2]
  · isplitr; · iapply (rec_inv m ρ K (c, kW)); iexact HR
    isplitl [Hw]; · iexact Hw
    isplitl [Hs2]; · iexact Hs2
    isplitl [Ht]; · iexact Ht
    iapply (rec_reached m ρ K (c, kW)); iexact HR
  iintro Hc
  iapply (wp_load 𝒱₀ (c : Thread nD τ) none Set.univ (m := stg0M) (Finset.subset_univ _)) $$ Hst; iintro Hst
  iapply (wp_load 𝒱₀ (c : Thread nD τ) none Set.univ (m := xbM) (Finset.subset_univ _)) $$ Hs0; iintro Hs0
  iapply (wp_store 𝒱₀ (c : Thread nD τ) none Set.univ (m := xbM) (r := zXb) (Mk := Finset.univ) (Finset.subset_univ _)) $$ Hs0; iintro Hs0
  rw [show stg0M.view.readAt (Elt F) zXb.toLoadRect (xstg m ρ c) = xstg m ρ c from
      Memref.readAt_unit_zero (Elt F) cc0_stg0_0 zero2 _ _,
    show (xbM.access zXb).write (Elt F) f0 (k0_pay1 (xstg m ρ c)) Finset.univ = xb m ρ c from
      Memref.write_access_unit_zero_univ (Elt F) cc0_scratch0 zero2 _ _ _]
  iapply (wp_load_rect 𝒱₀ (c : Thread nD τ) none Set.univ (m := xbM) (r := rRow (k0_off1 c) (k0_off1_inb c)) (Finset.subset_univ _)) $$ Hs0; iintro Hs0
  iapply (wp_load 𝒱₀ (c : Thread nD τ) none Set.univ (m := xrM) (Finset.subset_univ _)) $$ Hs1; iintro Hs1
  iapply (wp_store 𝒱₀ (c : Thread nD τ) none Set.univ (m := xrM) (r := rCol (k0_off2 c) (k0_off2_inb c)) (Mk := Finset.univ) (Finset.subset_univ _)) $$ Hs1; iintro Hs1
  rw [wp_ret]; imodintro
  iapply HK
  isplitl [Hc]; · iexact Hc
  isplitl [Hst]; · iexact Hst
  isplitl [Hs0]; · iexact Hs0
  iexists ((colV (k0_off2 c) (k0_off2_inb c)).write (Elt F) f1 (k0_pay2 ((rowV (k0_off1 c) (k0_off1_inb c)).read (Elt F) (xb m ρ c))) Finset.univ)
  isplitr
  · ipureintro
    exact colV_write m ρ (k0_off2_eq c) (k0_off2_inb c) c f1 _
      ((shapeCast_self _ shapeCasts_S256x256_S256x256).trans (ablk_of_read m ρ c c (k0_off1_eq c) (k0_off1_inb c)))
  iexact Hs1

/-! ## The device's own part -/

abbrev addBlk (c : Dev nD) (a : S256x2048.Idx → Elt F .f32) (r : Fin 15) : S256x2048.Idx → Elt F .f32 :=
  k0_pay5 a (ablk m ρ c (bwd c r)) (wblk m ρ c (bwd c r))

set_option maxHeartbeats 400000 in
theorem own_spec (c : Dev nD) (g : Buf (Elt F) ((c : Thread nD τ).loc cc0_scratch1)) (hg : ∀ i ∈ colSet c, g i = XR m ρ c i)
    (f3 : Buf (Elt F) ((c : Thread nD τ).loc cc0_scratch3)) (fo : Buf (Elt F) ((c : Thread nD τ).loc cc0_stg1_0)) (Kt : sProp 𝕄) :
    iprop(records m ρ K ∗ cred (tallyAt (wCell c) () NW) ∗ atPos ER (wCell c) 0 ∅ 0 ∗ stZero (F := F) c ∗ own1 c cc0_scratch3 f3 ∗ xrow c c g ∗ own1 c cc0_stg1_0 fo
        ∗ ((semVal (wCell c) 0 ∗ stZero (F := F) c ∗ wPay m ρ c ∗ own1 c cc0_scratch3 (wb m ρ c) ∗ xrow c c g ∗ own1 c cc0_stg1_0 (accAt m ρ c [])) -∗ Kt))
      ⊢ wpc c (Cert.KernelIdeal.AllToAll.own wtM (Memref.isWhole_whole _) outM xrM wfM (Memref.isWhole_whole _) wbM (Memref.isWhole_whole _) cc0_scratch6 c) fun _ => Kt := by
  unfold Cert.KernelIdeal.AllToAll.own wpc own1 stZero
  simp only [Prog.lift, Prog.bind_op, Prog.bind_ret, Prog.pure_eq_ret]
  iintro ⟨#HR, Hc, Hat, ⟨%W, HO⟩, Hs3, Hx, Ho, HK⟩
  iapply (Rounds.wp_wait_rest_token 𝒱₀ ER (sched m ρ) (c : Thread nD τ) none (κ := K (c, kW))
      (wpE_waitDma2_eq 𝒱₀ (c : Thread nD τ) none Set.univ) (Set.mem_univ _) () (O := 0) (W := W) (R := 0) (m := 0) (T := ∅)
      (by rw [Nat.zero_add, expect_wts]; rfl)) $$ [Hc HO Hat]
  · isplitr; · iapply (rec_inv m ρ K (c, kW)); iexact HR
    isplitl [Hc]; · iexact Hc
    isplitl [HO]; · iexact HO
    isplitr; · rw [MayWait_zero]; iempintro
    iexact Hat
  iintro ⟨HO, Hat, -, Hpay⟩
  ihave Hp := (Entails.of_eq (rest_wts m ρ c)) $$ Hpay
  unfold wPay
  icases Hp with ⟨Hs2, Hw⟩
  imod (Rounds.cell_close ER (sched m ρ) (Set.mem_univ (K (c, kW))) (fun h => h) (R := 0 + 1) (duties_later m ρ (wCell c))) $$ [Hat] with Hz
  · isplitr; · iapply (rec_inv m ρ K (c, kW)); iexact HR
    iexact Hat
  iapply (wp_load 𝒱₀ (c : Thread nD τ) none Set.univ (m := wfM) (Finset.subset_univ _)) $$ Hs2; iintro Hs2
  iapply (wp_load 𝒱₀ (c : Thread nD τ) none Set.univ (m := wbM) (Finset.subset_univ _)) $$ Hs3; iintro Hs3
  iapply (wp_store 𝒱₀ (c : Thread nD τ) none Set.univ (m := wbM) (r := zWt) (Mk := Finset.univ) (Finset.subset_univ _)) $$ Hs3; iintro Hs3
  rw [show wfM.view.readAt (Elt F) zWt.toLoadRect (wt m ρ c) = wt m ρ c from
      Memref.readAt_unit_zero (Elt F) cc0_scratch2 zero2 _ _,
    show (wbM.access zWt).write (Elt F) f3 (k0_pay3 (wt m ρ c)) Finset.univ = wb m ρ c from
      Memref.write_access_unit_zero_univ (Elt F) cc0_scratch3 zero2 _ _ _]
  unfold xrow
  iapply (wp_load_rect 𝒱₀ (c : Thread nD τ) none Set.univ (m := xrM) (r := rCol (k0_off2 c) (k0_off2_inb c)) (S := colSet c) (colV_set (k0_off2_eq c) (k0_off2_inb c)).subset) $$ Hx; iintro Hx
  iapply (wp_load_rect 𝒱₀ (c : Thread nD τ) none Set.univ (m := wbM) (r := rWts (k0_off6 c) (k0_off6_inb c)) (Finset.subset_univ _)) $$ Hs3; iintro Hs3
  rw [show (xrM.access (Rect.unit (s := S256x4096) (k0_off2 c) S256x256.size (k0_off2_inb c))).read (Elt F) g = ablk m ρ c c from
      colV_read m ρ (k0_off2_eq c) (k0_off2_inb c) c g hg,
    show (wbM.access (Rect.unit (s := S4096x2048) (k0_off6 c) S256x2048.size (k0_off6_inb c))).read (Elt F) (wb m ρ c) = wblk m ρ c c from
      wtV_read (k0_off6_eq c) (k0_off6_inb c) _]
  iapply (wp_load 𝒱₀ (c : Thread nD τ) none Set.univ (m := outM) (Finset.subset_univ _)) $$ Ho; iintro Ho
  iapply (wp_store 𝒱₀ (c : Thread nD τ) none Set.univ (m := outM) (r := zOut) (Mk := Finset.univ) (Finset.subset_univ _)) $$ Ho; iintro Ho
  rw [show (outM.access zOut).write (Elt F) fo (k0_pay4 (ablk m ρ c c) (wblk m ρ c c)) Finset.univ = accAt m ρ c [] from
      Memref.write_access_unit_zero_univ (Elt F) cc0_stg1_0 zero2 _ _ _]
  rw [wp_ret]; imodintro
  iapply HK
  isplitl [Hz]; · iexact Hz
  isplitl [HO]; · iexists _; iexact HO
  isplitl [Hs2 Hw]
  · isplitl [Hs2] <;> iassumption
  isplitl [Hs3]; · iexact Hs3
  isplitl [Hx]; · iexact Hx
  iexact Ho

/-! ## The receipts -/

def stRecv (c : Dev nD) (l : List (Fin 15)) : sProp 𝕄 :=
  iprop(∃ a : Buf (Elt F) ((c : Thread nD τ).loc cc0_stg1_0), ⌜l.foldl (addBlk m ρ c) a = accAt m ρ c (List.finRange 15)⌝
    ∗ own1 c cc0_stg1_0 a ∗ own1 c cc0_scratch3 (wb m ρ c) ∗ stZero (F := F) c)
def preRecv (c : Dev nD) (r : Fin 15) : sProp 𝕄 := iprop(cred (tallyAt (rCell c (bwd c r)) () N) ∗ atPos ER (rCell c (bwd c r)) 0 ∅ 0)
def postRecv (c : Dev nD) (r : Fin 15) : sProp 𝕄 := iprop(xrow c (bwd c r) (XR m ρ c) ∗ semVal (rCell c (bwd c r)) 0)

set_option maxHeartbeats 400000 in
theorem recv_step (c : Dev nD) (r : Fin 15) (l : List (Fin 15)) (Kt : sProp 𝕄) :
    iprop(records m ρ K ∗ preRecv (F := F) c r ∗ stRecv m ρ c (r :: l) ∗ ((postRecv m ρ c r ∗ stRecv m ρ c l) -∗ Kt))
      ⊢ wpc c (recvStep outM xbM (Memref.isWhole_whole _) xrM (Memref.isWhole_whole _) wbM cc0_scratch5 c r) fun _ => Kt := by
  unfold recvStep preRecv postRecv stRecv wpc own1 stZero
  simp only [Prog.lift, Prog.bind_op, Prog.bind_ret, Prog.pure_eq_ret, recvS_eq]
  iintro ⟨#HR, ⟨Hc, Hat⟩, ⟨%a, %ha, Ho, Hs3, ⟨%W, HO⟩⟩, HK⟩
  iapply (Rounds.wp_wait_rest_token 𝒱₀ ER (sched m ρ) (c : Thread nD τ) none (κ := K (c, kR (bwd c r)))
      (wpE_waitDma2_eq 𝒱₀ (c : Thread nD τ) none Set.univ) (Set.mem_univ _) () (O := 0) (W := W) (R := 0) (m := 0) (T := ∅)
      (by rw [Nat.zero_add, expect_recv m ρ c _ (bwd_ne c r)]; rfl)) $$ [Hc HO Hat]
  · isplitr; · iapply (rec_inv m ρ K (c, kR (bwd c r))); iexact HR
    isplitl [Hc]; · iexact Hc
    isplitl [HO]; · iexact HO
    isplitr; · rw [MayWait_zero]; iempintro
    iexact Hat
  iintro ⟨HO, Hat, -, Hpay⟩
  ihave Hx := (Entails.of_eq (rest_recv m ρ c _ (bwd_ne c r))) $$ Hpay
  imod (Rounds.cell_close ER (sched m ρ) (Set.mem_univ (K (c, kR (bwd c r)))) (fun h => h) (R := 0 + 1) (duties_later m ρ (rCell c (bwd c r)))) $$ [Hat] with Hz
  · isplitr; · iapply (rec_inv m ρ K (c, kR (bwd c r))); iexact HR
    iexact Hat
  unfold recvPay xrow
  iapply (wp_load 𝒱₀ (c : Thread nD τ) none Set.univ (m := outM) (Finset.subset_univ _)) $$ Ho; iintro Ho
  iapply (wp_load_rect 𝒱₀ (c : Thread nD τ) none Set.univ (m := xrM) (r := rCol (k0_off9 c (kw r)) (k0_off9_inb c r)) (S := colSet (bwd c r)) (colV_set (off9_eq c r) (k0_off9_inb c r)).subset) $$ Hx; iintro Hx
  iapply (wp_load_rect 𝒱₀ (c : Thread nD τ) none Set.univ (m := wbM) (r := rWts (k0_off10 c (kw r)) (k0_off10_inb c r)) (Finset.subset_univ _)) $$ Hs3; iintro Hs3
  iapply (wp_load 𝒱₀ (c : Thread nD τ) none Set.univ (m := outM) (Finset.subset_univ _)) $$ Ho; iintro Ho
  iapply (wp_store 𝒱₀ (c : Thread nD τ) none Set.univ (m := outM) (r := zOut) (Mk := Finset.univ) (Finset.subset_univ _)) $$ Ho; iintro Ho
  rw [show outM.view.readAt (Elt F) zOut.toLoadRect a = a from
      Memref.readAt_unit_zero (Elt F) cc0_stg1_0 zero2 _ _,
    show (xrM.access (Rect.unit (s := S256x4096) (k0_off9 c (kw r)) S256x256.size (k0_off9_inb c r))).read (Elt F) (XR m ρ c) = ablk m ρ c (bwd c r) from
      colV_read m ρ (off9_eq c r) (k0_off9_inb c r) c _ fun _ _ => rfl,
    show (wbM.access (Rect.unit (s := S4096x2048) (k0_off10 c (kw r)) S256x2048.size (k0_off10_inb c r))).read (Elt F) (wb m ρ c) = wblk m ρ c (bwd c r) from
      wtV_read (off10_eq c r) (k0_off10_inb c r) _,
    show (outM.access zOut).write (Elt F) a (k0_pay5 a (ablk m ρ c (bwd c r)) (wblk m ρ c (bwd c r))) Finset.univ = addBlk m ρ c a r from
      Memref.write_access_unit_zero_univ (Elt F) cc0_stg1_0 zero2 _ _ _]
  rw [wp_ret]; imodintro
  iapply HK
  isplitl [Hx Hz]
  · isplitl [Hx] <;> iassumption
  iexists _
  isplitr; · ipureintro; exact ha
  isplitl [Ho]; · iexact Ho
  isplitl [Hs3]; · iexact Hs3
  iexists _; iexact HO

/-! ## The activation -/

theorem epilogue_spec (c : Dev nD) (Kt : sProp 𝕄) :
    iprop(own1 c cc0_stg1_0 (accAt m ρ c (List.finRange 15)) ∗ (own1 c cc0_stg1_0 (outAt m ρ c) -∗ Kt)) ⊢ wpc c (epilogue outM) fun _ => Kt := by
  unfold epilogue wpc own1
  simp only [Prog.lift, Prog.bind_op, Prog.bind_ret, Prog.pure_eq_ret]
  iintro ⟨Ho, HK⟩
  iapply (wp_load 𝒱₀ (c : Thread nD τ) none Set.univ (m := outM) (Finset.subset_univ _)) $$ Ho; iintro Ho
  iapply (wp_load 𝒱₀ (c : Thread nD τ) none Set.univ (m := outM) (Finset.subset_univ _)) $$ Ho; iintro Ho
  iapply (wp_store 𝒱₀ (c : Thread nD τ) none Set.univ (m := outM) (r := zOut) (Mk := Finset.univ) (Finset.subset_univ _)) $$ Ho; iintro Ho
  rw [show outM.view.readAt (Elt F) zOut.toLoadRect (accAt m ρ c (List.finRange 15)) = accAt m ρ c (List.finRange 15) from
      Memref.readAt_unit_zero (Elt F) cc0_stg1_0 zero2 _ _,
    show (outM.access zOut).write (Elt F) (accAt m ρ c (List.finRange 15)) (k0_pay22 (accAt m ρ c (List.finRange 15))) Finset.univ = outAt m ρ c from
      Memref.write_access_unit_zero_univ (Elt F) cc0_stg1_0 zero2 _ _ _]
  rw [wp_ret]; imodintro
  iapply HK; iexact Ho

end Cert.KernelIdeal.AllToAll

end
-- ==== Proof.Body.lean ====
/-
The whole body on one device: from its buffers, its positions and the tokens of what it pays, to the result in place and every
semaphore that it owns back at zero.
-/
module

public import proofs.«01_k».proof.Proof.Phases

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Parts and wholes -/

theorem erase_zero : (Finset.univ : Finset (Fin 16)).erase 0 = Finset.univ.map ⟨Fin.succ, Fin.succ_injective 15⟩ := by decide +kernel

/-- The first of sixteen, and the rest. -/
theorem split_succ {M : Type} [URA M] (Φ : Fin 16 → sProp M) :
    bigSep Finset.univ Φ = iprop(Φ 0 ∗ bigSep Finset.univ fun r : Fin 15 => Φ r.succ) := by
  rw [bigSep_univ_at Φ 0, erase_zero, bigSep_map]; rfl

theorem xrow_all (c : Dev nD) (f : Buf (Elt F) ((c : Thread nD τ).loc cc0_scratch1)) :
    own1 c cc0_scratch1 f = bigSep Finset.univ fun j => xrow (F := F) c j f := by
  have h := pointsTo_biUnion (Ix := Unit) (Name := ℕ) (U := UU) (Lvl := ℕ) (ℓ := (c : Thread nD τ).loc cc0_scratch1) (q := fullShare) (f := f) (Finset.univ : Finset (Dev nD)) (fun j => colSet j)
    (fun t _ t' _ h => colSet_disjoint t t' h)
  refine Eq.trans ?_ h
  unfold own1
  exact congrArg (fun I => pointsTo ((c : Thread nD τ).loc cc0_scratch1) I fullShare f) colSet_cover.symm

theorem xbf_all (c : Dev nD) (f : Buf (Elt F) ((c : Thread nD τ).loc cc0_scratch0)) :
    own1 c cc0_scratch0 f = bigSep Finset.univ fun j => xbf (F := F) c j f := by
  have h := pointsTo_biUnion (Ix := Unit) (Name := ℕ) (U := UU) (Lvl := ℕ) (ℓ := (c : Thread nD τ).loc cc0_scratch0) (q := fullShare) (f := f) (Finset.univ : Finset (Dev nD)) (fun j => rowSet j)
    (fun t _ t' _ h => rowSet_disjoint t t' h)
  refine Eq.trans ?_ h
  unfold own1
  exact congrArg (fun I => pointsTo ((c : Thread nD τ).loc cc0_scratch0) I fullShare f) rowSet_cover.symm

/-! ## What a device starts from -/

/-- Its positions, and the tokens of the duties it pays. -/
def linear (c : Dev nD) : sProp 𝕄 :=
  iprop((atPos ER (barCell c) 0 ∅ 0 ∗ atPos ER (wCell c) 0 ∅ 0 ∗ (bigSep Finset.univ fun j => atPos ER (sCell c j) 0 ∅ 0) ∗ bigSep Finset.univ fun j => atPos ER (rCell c j) 0 ∅ 0)
    ∗ dutyTok ER (wCell c) 0 0 ∗ (bigSep Finset.univ fun r => dutyTok ER (sigCell c r) 0 (Fin.rev r))
    ∗ (bigSep Finset.univ fun r : Fin 15 => dutyTok ER (sCell c r.succ) 0 0) ∗ bigSep Finset.univ fun r => dutyTok ER (arrCell c r) 0 0)

/-- That, at some names of the invariants, with the credit it waits with, the levels, and the weights. -/
def begins (c : Dev nD) : sProp 𝕄 :=
  iprop((∃ K, records m ρ K ∗ linear (F := F) c) ∗ (cred (tallyAt (barCell c) () 15) ∗ bigSep Finset.univ fun r => cred (tallyAt (rCell c (bwd c r)) () N))
    ∗ levAts L lv ∗ own1 c main_arg1 (wt m ρ c))

def scratch (c : Dev nD) : sProp 𝕄 :=
  iprop((∃ f, own1 (F := F) c cc0_scratch0 f) ∗ (∃ f, own1 (F := F) c cc0_scratch1 f) ∗ (∃ f, own1 (F := F) c cc0_scratch2 f) ∗ (∃ f, own1 (F := F) c cc0_scratch3 f))

def Φ₀ (c : Dev nD) : sProp 𝕄 := iprop(begins m ρ c ∗ scratch (F := F) c)

/-- After the body: the barrier and the kernel's own semaphores at zero, the weights as they were, the scratch buffers at some contents. -/
def Φ₁ (c : Dev nD) : sProp 𝕄 :=
  iprop((semVal (barCell c) 0 ∗ own1 c main_arg1 (wt m ρ c))
    ∗ (semVal (wCell c) 0 ∗ (bigSep Finset.univ fun j => semVal (sCell c j) 0) ∗ bigSep Finset.univ fun j => semVal (rCell c j) 0) ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ own1 c b f) := by
  unfold owns own1; simp only [Memref.view_whole, View.read_whole, View.set_whole]

/-! ## The body -/

variable (K : Dev nD × Ck → ℕ)

abbrev theBody : PR F :=
  body stg0M wtM (Memref.isWhole_whole _) outM xbM (Memref.isWhole_whole _) xrM (Memref.isWhole_whole _) wfM (Memref.isWhole_whole _) wbM (Memref.isWhole_whole _)
    cc0_scratch4 cc0_scratch5 cc0_scratch6

/-- The sends' preparation: the row buffer in its groups, the own one kept. -/
theorem sends_pre (c : Dev nD) :
    iprop(own1 c cc0_scratch0 (xb m ρ c) ∗ (bigSep Finset.univ fun r => barPay (F := F) c r)
        ∗ (bigSep Finset.univ fun r : Fin 15 => dutyTok ER (sCell c r.succ) 0 0) ∗ bigSep Finset.univ fun r => dutyTok ER (arrCell c r) 0 0)
      ⊢ iprop(xbf c c (xb m ρ c) ∗ bigSep Finset.univ fun r => preSend m ρ c r) := by
  unfold preSend
  rw [xbf_all, split_fwd c fun j => xbf (F := F) c j (xb m ρ c)]
  simp only [bigSep_sep']
  iintro ⟨⟨H1, H2⟩, Hb, Hs, Hr⟩
  isplitl [H1]; · iexact H1
  isplitl [Hs]; · iexact Hs
  isplitl [Hr]; · iexact Hr
  isplitl [H2] <;> iassumption

/-- The signals' preparation: the gathered buffer in its groups, the own one kept. -/
theorem sigs_pre (c : Dev nD) (g : Buf (Elt F) ((c : Thread nD τ).loc cc0_scratch1)) :
    iprop(own1 c cc0_scratch1 g ∗ bigSep Finset.univ fun r => dutyTok ER (sigCell c r) 0 (Fin.rev r))
      ⊢ iprop(xrow c c g ∗ bigSep Finset.univ fun r => preSig (F := F) c r) := by
  unfold preSig
  rw [xrow_all, split_fwd c fun j => xrow (F := F) c j g, bigSep_sep']
  iintro ⟨⟨H1, H2⟩, Ht⟩
  isplitl [H1]; · iexact H1
  isplitl [Ht]; · iexact Ht
  have h : (bigSep Finset.univ fun r => xrow (F := F) c (fwd c r) g) ⊢ bigSep Finset.univ fun r => iprop(∃ f, xrow (F := F) c (fwd c r) f) :=
    bigSep_mono fun r _ => exists_intro (Φ := fun f => xrow (F := F) c (fwd c r) f) g
  iapply h; iexact H2

/-- All the receipts in: the gathered buffer whole. -/
theorem recvs_post (c : Dev nD) (g : Buf (Elt F) ((c : Thread nD τ).loc cc0_scratch1)) (hg : ∀ i ∈ colSet c, g i = XR m ρ c i) :
    iprop(xrow c c g ∗ semVal (rCell c c) 0 ∗ bigSep Finset.univ fun r => postRecv m ρ c r)
      ⊢ iprop(own1 c cc0_scratch1 (XR m ρ c) ∗ bigSep Finset.univ fun j => semVal (rCell c j) 0) := by
  unfold postRecv
  rw [xrow_all, split_bwd c fun j => xrow (F := F) c j (XR m ρ c), split_bwd c fun j => (semVal (rCell c j) 0 : sProp 𝕄), bigSep_sep',
    show xrow (F := F) c c g = xrow c c (XR m ρ c) from by unfold xrow; exact pointsTo_congr hg]
  iintro ⟨H1, Hz, H2, H3⟩
  isplitl [H1 H2]
  · isplitl [H1] <;> iassumption
  isplitl [Hz] <;> iassumption

/-- All the sends out: the row buffer whole. -/
theorem sents_post (c : Dev nD) :
    iprop(xbf c c (xb m ρ c) ∗ semVal (sCell c 0) 0 ∗ bigSep Finset.univ fun r => postSent m ρ c r)
      ⊢ iprop(own1 c cc0_scratch0 (xb m ρ c) ∗ bigSep Finset.univ fun j => semVal (sCell c j) 0) := by
  unfold postSent
  rw [xbf_all, split_fwd c fun j => xbf (F := F) c j (xb m ρ c), split_succ fun j => (semVal (sCell c j) 0 : sProp 𝕄), bigSep_sep']
  iintro ⟨H1, Hz, H2, H3⟩
  isplitl [H1 H2]
  · isplitl [H1] <;> iassumption
  isplitl [Hz] <;> iassumption

/-- The wait on the barrier. -/
theorem bar_wait (c : Dev nD) (Kt : sProp 𝕄) :
    iprop(records m ρ K ∗ levAts L lv ∗ cred (tallyAt (barCell c) () 15) ∗ atPos ER (barCell c) 0 ∅ 0 ∗ stSig (F := F) c []
        ∗ ((semVal (barCell c) 0 ∗ stSend (F := F) c (List.finRange 15) ∗ bigSep Finset.univ fun r => barPay (F := F) c r) -∗ Kt))
      ⊢ wpc c (semWaitWord barS 15#32) fun _ => Kt := by
  unfold semWaitWord wpc stSig stSend
  rw [owedOn_nil, add_zero]
  iintro ⟨#HR, #Hlev, Hc, Hat, ⟨%W, HO⟩, HK⟩
  iapply (Rounds.wp_wait_rest_token 𝒱₀ ER (sched m ρ) (c : Thread nD τ) none (κ := K (c, kBar))
      (wpE_semWait_eq 𝒱₀ (c : Thread nD τ) none Set.univ) (Set.mem_univ _) () (O := owedOn (arrCell c) N (List.finRange 15)) (W := W) (R := 0) (m := 0) (T := ∅)
      (by rw [expect_bar]; decide)) $$ [Hc HO Hat]
  · isplitr; · iapply (rec_inv m ρ K (c, kBar)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (sched m ρ) (Set.mem_univ (K (c, kBar))) (fun h => h) (R := 0 + 1) (duties_later m ρ (barCell c))) $$ [Hat] with Hz
  · isplitr; · iapply (rec_inv m ρ K (c, kBar)); iexact HR
    iexact Hat
  rw [wp_ret]; imodintro
  iapply HK
  isplitl [Hz]; · iexact Hz
  isplitl [HO]; · iexists _; iexact HO
  iexact Hp

def bodyPre (c : Dev nD) : sProp 𝕄 :=
  iprop(records m ρ K ∗ linear (F := F) c ∗ (cred (tallyAt (barCell c) () 15) ∗ bigSep Finset.univ fun r => cred (tallyAt (rCell c (bwd c r)) () N))
    ∗ levAts L lv ∗ own1 c main_arg1 (wt m ρ c) ∗ scratch (F := F) c ∗ (∃ W, owes (c : Thread nD τ) (O₀ c) W)
    ∗ own1 c cc0_stg0_0 (xstg m ρ c) ∗ ∃ f, own1 (F := F) c cc0_stg1_0 f)

def bodyPost (c : Dev nD) : sProp 𝕄 :=
  iprop(Φ₁ m ρ c ∗ stZero (F := F) c ∗ own1 c cc0_stg0_0 (xstg m ρ c) ∗ own1 c cc0_stg1_0 (outAt m ρ c))

set_option maxHeartbeats 1000000 in
theorem sound_body (c : Dev nD) (Kt : PUnit → sProp 𝕄) :
    iprop(bodyPre m ρ K c ∗ (bodyPost m ρ c -∗ Kt ⟨⟩)) ⊢ wpc c theBody Kt := by
  unfold theBody body wpc
  simp only [Prog.lift, Prog.bind_op, Prog.bind_ret, wp_deviceId]
  unfold bodyPre linear scratch
  iintro ⟨⟨#HR, ⟨⟨HaB, HaW, HaS, HaV⟩, HtW, HtB, HtS, HtV⟩, ⟨HcB, HcV⟩, #Hlev, Hw, ⟨⟨%f0, Hs0⟩, ⟨%f1, Hs1⟩, ⟨%f2, Hs2⟩, ⟨%f3, Hs3⟩⟩, HO, Hst, ⟨%fo, Hout⟩⟩, Hk⟩
  ihave HaS' := (Entails.of_eq (split_succ fun j => (atPos ER (sCell c j) 0 ∅ 0 : sProp 𝕄))) $$ HaS
  icases HaS' with ⟨HaS0, HaS⟩
  ihave HaV' := (Entails.of_eq (split_bwd c fun j => (atPos ER (rCell c j) 0 ∅ 0 : sProp 𝕄))) $$ HaV
  icases HaV' with ⟨HaV0, HaV⟩
  -- the two semaphores that are never used
  imod (Rounds.cell_close ER (sched m ρ) (Set.mem_univ (K (c, kS 0))) (fun h => h) (R := 0) (fun r _ => duties_send0 m ρ c r)) $$ [HaS0] with HzS0
  · isplitr; · iapply (rec_inv m ρ K (c, kS 0)); iexact HR
    iexact HaS0
  imod (Rounds.cell_close ER (sched m ρ) (Set.mem_univ (K (c, kR c))) (fun h => h) (R := 0) (fun r _ => duties_recv_self m ρ c r)) $$ [HaV0] with HzV0
  · isplitr; · iapply (rec_inv m ρ K (c, kR c)); iexact HR
    iexact HaV0
  -- the start
  rw [wp_bind]
  iapply (start_spec m ρ K c f0 f1 f2)
  isplitr; · iexact HR
  isplitl [HtW]; · iexact HtW
  isplitl [Hw]; · iexact Hw
  isplitl [Hs2]; · iexact Hs2
  isplitl [Hst]; · iexact Hst
  isplitl [Hs0]; · iexact Hs0
  isplitl [Hs1]; · iexact Hs1
  iintro ⟨HcW, Hst, Hs0, ⟨%g, %hg, Hs1⟩⟩
  -- the signals
  ihave Hsig := (sigs_pre c g) $$ [Hs1 HtB]
  · isplitl [Hs1] <;> iassumption
  icases Hsig with ⟨Hx, Hsig⟩
  rw [wp_bind]
  iapply (wp_each_univ c (records m ρ K) (sigStep c) (preSig (F := F) c) (fun _ => iprop(emp)) (stSig (F := F) c) (sig_step m ρ K c))
  isplitr; · iexact HR
  isplitl [Hsig]; · iexact Hsig
  isplitl [HO]; · unfold stSig O₀; iexact HO
  iintro ⟨-, HO⟩
  -- the barrier
  rw [wp_bind]
  iapply (bar_wait m ρ K c)
  isplitr; · iexact HR
  isplitr; · iexact Hlev
  isplitl [HcB]; · iexact HcB
  isplitl [HaB]; · iexact HaB
  isplitl [HO]; · iexact HO
  iintro ⟨HzB, HO, Hbar⟩
  -- the sends
  ihave Hsend := (sends_pre m ρ c) $$ [Hs0 Hbar HtS HtV]
  · isplitl [Hs0]; · iexact Hs0
    isplitl [Hbar]; · iexact Hbar
    isplitl [HtS] <;> iassumption
  icases Hsend with ⟨Hb, Hsend⟩
  rw [wp_bind]
  iapply (wp_each_univ c (records m ρ K) _ (preSend m ρ c) (fun r => cred (tallyAt (sCell c r.succ) () N)) (stSend (F := F) c) (send_step m ρ K c))
  isplitr; · iexact HR
  isplitl [Hsend]; · iexact Hsend
  isplitl [HO]; · iexact HO
  iintro ⟨HcS, HO⟩
  -- the own part
  rw [wp_bind]
  iapply (own_spec m ρ K c g hg f3 fo)
  isplitr; · iexact HR
  isplitl [HcW]; · iexact HcW
  isplitl [HaW]; · iexact HaW
  isplitl [HO]; · unfold stSend stZero; rw [owedOn_nil]; iexact HO
  isplitl [Hs3]; · iexact Hs3
  isplitl [Hx]; · iexact Hx
  isplitl [Hout]; · iexact Hout
  iintro ⟨HzW, HO, Hwp, Hs3, Hx, Hout⟩
  unfold wPay
  icases Hwp with ⟨Hs2, Hw⟩
  -- the receipts
  rw [wp_bind]
  iapply (wp_each_univ c (records m ρ K) _ (preRecv (F := F) c) (postRecv m ρ c) (stRecv m ρ c) (recv_step m ρ K c))
  isplitr; · iexact HR
  isplitl [HcV HaV]
  · unfold preRecv; rw [bigSep_sep']
    isplitl [HcV] <;> iassumption
  isplitl [HO Hs3 Hout]
  · unfold stRecv
    iexists (accAt m ρ c [])
    isplitr; · ipureintro; rfl
    isplitl [Hout]; · iexact Hout
    isplitl [Hs3] <;> iassumption
  iintro ⟨Hrecv, Hst'⟩
  unfold stRecv
  icases Hst' with ⟨%a, %ha, Hout, Hs3, HO⟩
  have ha' : a = accAt m ρ c (List.finRange 15) := ha
  subst ha'
  -- the activation
  rw [wp_bind]
  iapply (epilogue_spec m ρ c)
  isplitl [Hout]; · iexact Hout
  iintro Hout
  -- the waits for the sends
  have hsent : ∀ (r : Fin 15) (l : List (Fin 15)) (Kt : sProp 𝕄), _ := fun r _ => sent_step m ρ K c r
  iapply (wp_each_univ c (records m ρ K) (sentStep xbM (Memref.isWhole_whole _) xrM (Memref.isWhole_whole _) cc0_scratch4 c) (preSent (F := F) c) (postSent m ρ c) (fun _ => stZero (F := F) c) hsent (Kt ⟨⟩))
  isplitr; · iexact HR
  isplitl [HcS HaS]
  · unfold preSent; rw [bigSep_sep']
    isplitl [HcS] <;> iassumption
  isplitl [HO]; · iexact HO
  iintro ⟨Hsent, HO⟩
  ihave H1 := (recvs_post m ρ c g hg) $$ [Hx HzV0 Hrecv]
  · isplitl [Hx]; · iexact Hx
    isplitl [HzV0] <;> iassumption
  icases H1 with ⟨Hs1, HzV⟩
  ihave H2 := (sents_post m ρ c) $$ [Hb HzS0 Hsent]
  · isplitl [Hb]; · iexact Hb
    isplitl [HzS0] <;> iassumption
  icases H2 with ⟨Hs0, HzS⟩
  iapply Hk
  unfold bodyPost Φ₁ scratch
  isplitr [HO Hst Hout]
  · isplitl [HzB Hw]
    · isplitl [HzB] <;> iassumption
    isplitl [HzW HzS HzV]
    · isplitl [HzW]; · iexact HzW
      isplitl [HzS] <;> iassumption
    isplitl [Hs0]; · iexists _; iexact Hs0
    isplitl [Hs1]; · iexists _; iexact Hs1
    isplitl [Hs2]; · iexists _; iexact Hs2
    iexists _; iexact Hs3
  isplitl [HO]; · iexact HO
  isplitl [Hst] <;> iassumption

end Cert.KernelIdeal.AllToAll

end
-- ==== Proof.Launch.lean ====
/-
The launch: the ghost state made and dealt out, and the run of the whole program from any memory.
-/
module

public import proofs.«01_k».proof.Proof.Body
public import Idealize.ShloMosaic.Lib.Pipeline.Quiescent

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the launch states it -/

def atBody (c : Dev nD) : sProp 𝕄 :=
  iprop(Φ₀ m ρ c ∗ (dats m ρ 0 c).owesAt () (t0_0 : Fin cfg0.N).castSucc
    ∗ (∃ d, ∃ f : Buf (Elt F) ((c : Thread nD τ).loc cc0_stg0_0), ⌜f = (dats m ρ 0 c).before (0 : Fin 2) t0_0 d⌝ ∗ own1 c cc0_stg0_0 f)
    ∗ (∃ d, ∃ f : Buf (Elt F) ((c : Thread nD τ).loc cc0_stg1_0), ⌜f = (dats m ρ 0 c).before (1 : Fin 2) t0_0 d⌝ ∗ own1 c cc0_stg1_0 f))

def afterBody (c : Dev nD) : sProp 𝕄 :=
  iprop(Φ₁ m ρ c ∗ (dats m ρ 0 c).owesAt () (t0_0 : Fin cfg0.N).succ
    ∗ (∃ f : Buf (Elt F) ((c : Thread nD τ).loc cc0_stg0_0), ⌜f = xstg m ρ c⌝ ∗ own1 c cc0_stg0_0 f)
    ∗ (∃ f : Buf (Elt F) ((c : Thread nD τ).loc cc0_stg1_0), ⌜f = outAt m ρ c⌝ ∗ own1 c cc0_stg1_0 f))

theorem at_intro (c : Dev nD) : atBody m ρ c ⊢ iprop(∃ K, bodyPre m ρ K c) := by
  unfold atBody Φ₀ begins bodyPre
  iintro ⟨⟨⟨⟨%K, HR, Hl⟩, Hc, Hlev, Hw⟩, Hscr⟩, Ho, ⟨%d0, %g0, %hg0, Hst⟩, ⟨%d1, %g1, %hg1, Hout⟩⟩
  have hx : g0 = xstg m ρ c := by rw [hg0]; unfold Dat.before; rw [if_pos (fetch_0 t0_0)]; rfl
  subst hx
  iexists K
  isplitl [HR]; · iexact HR
  isplitl [Hl]; · iexact Hl
  isplitl [Hc]; · iexact Hc
  isplitl [Hlev]; · iexact Hlev
  isplitl [Hw]; · iexact Hw
  isplitl [Hscr]; · iexact Hscr
  isplitl [Ho]
  · unfold Dat.owesAt Pipeline.owesWithin
    icases Ho with ⟨%W, -, HO⟩
    iexists W; iexact HO
  isplitl [Hst]; · iexact Hst
  iexists g1; iexact Hout

theorem after_intro (c : Dev nD) : bodyPost m ρ c ⊢ afterBody m ρ c := by
  unfold bodyPost afterBody stZero
  iintro ⟨HΦ, ⟨%W, HO⟩, Hst, Hout⟩
  isplitl [HΦ]; · iexact HΦ
  isplitl [HO]
  · unfold Dat.owesAt Pipeline.owesWithin
    iexists W
    isplitr; · ipureintro; exact fun _ _ => Or.inl trivial
    iexact HO
  isplitl [Hst]
  · iexists _; isplitr; · (ipureintro; rfl)
    iexact Hst
  iexists _; isplitr; · (ipureintro; rfl)
  iexact Hout

set_option maxRecDepth 40000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show atBody m ρ c ⊢ wpc c (cc0_body (Memref.whole cc0_stg0_0) (Memref.isWhole_whole _) (Memref.whole main_arg1) (Memref.isWhole_whole _) (Memref.whole cc0_stg1_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6) fun _ => afterBody m ρ c
  rw [cc0_body_eq]
  iintro H
  ihave H' := (at_intro m ρ c) $$ H
  icases H' with ⟨%K, H⟩
  iapply (sound_body m ρ K c fun _ => afterBody m ρ c)
  isplitl [H]; · iexact H
  iintro H
  iapply (after_intro m ρ c); iexact H

/-! ## The ghost state -/

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by decide +kernel

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

/-- The duties of a device's own cells: the copy of the weights, the fifteen signals, the fifteen sends, the fifteen receipts. -/
abbrev Duty := Unit ⊕ (Fin 15 ⊕ (Fin 15 ⊕ Fin 15))

def dutyAt (c : Dev nD) : Duty → Ck × Fin 15
  | .inl _ => (kW, 0)
  | .inr (.inl r) => (kBar, r)
  | .inr (.inr (.inl r)) => (kS r.succ, 0)
  | .inr (.inr (.inr r)) => (kR (bwd c r), 0)

theorem dutyAt_injective : ∀ c, Function.Injective (dutyAt c) := by decide +kernel

def tokOf (x : Dev nD × Duty) : GSem nD τ sig × ℕ × Fin 15 := (kcell (x.1, (dutyAt x.1 x.2).1), 0, (dutyAt x.1 x.2).2)

theorem tokOf_injective : Function.Injective tokOf := by
  rintro ⟨c, i⟩ ⟨c', i'⟩ h
  have h1 : c = c' := congrArg (fun x : GSem nD τ sig × ℕ × Fin 15 => x.1.1.1) h
  subst h1
  have h2 : (dutyAt c i).1 = (dutyAt c i').1 := csem_injective (congrArg (fun x : GSem nD τ sig × ℕ × Fin 15 => x.1.2) h)
  have h3 : (dutyAt c i).2 = (dutyAt c i').2 := congrArg (fun x : GSem nD τ sig × ℕ × Fin 15 => x.2.2) h
  rw [dutyAt_injective c (Prod.ext h2 h3)]

def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- The tokens of the duties of device `c`'s own cells. -/
def toks (c : Dev nD) : sProp 𝕄 :=
  iprop(dutyTok ER (wCell c) 0 0 ∗ (bigSep Finset.univ fun r => dutyTok ER (barCell c) 0 r)
    ∗ (bigSep Finset.univ fun r : Fin 15 => dutyTok ER (sCell c r.succ) 0 0) ∗ bigSep Finset.univ fun r => dutyTok ER (rCell c (bwd c r)) 0 0)

/-- The tokens of the duties that device `c` pays. -/
def payToks (c : Dev nD) : sProp 𝕄 :=
  iprop(dutyTok ER (wCell c) 0 0 ∗ (bigSep Finset.univ fun r => dutyTok ER (sigCell c r) 0 (Fin.rev r))
    ∗ (bigSep Finset.univ fun r : Fin 15 => dutyTok ER (sCell c r.succ) 0 0) ∗ bigSep Finset.univ fun r => dutyTok ER (arrCell c r) 0 0)

def ats (c : Dev nD) : sProp 𝕄 := bigSep Finset.univ fun k => atPos ER (kcell (c, k)) 0 ∅ 0

/-- What the launch deals device `c`; -/
def G (c : Dev nD) : sProp 𝕄 :=
  iprop((bigSep Finset.univ fun k => roundState ER (sched m ρ) (kcell (c, k)) 0) ∗ ats (F := F) c ∗ (bigSep Finset.univ fun k => reached ER (kcell (c, k)) 0) ∗ toks (F := F) c)

/-- what it holds when the invariants are made and the tokens passed to those who pay. -/
def G' (c : Dev nD) : sProp 𝕄 := iprop(∃ K, records m ρ K ∗ linear (F := F) c)

theorem unit_sep {M : Type} [URA M] (Φ : Unit → sProp M) : bigSep Finset.univ Φ = Φ () := bigSep_univ_of_subsingleton ()

/-- A conjunction over a device's semaphores, kind by kind. -/
theorem over_own {M : Type} [URA M] (Φ : Own → sProp M) :
    bigSep Finset.univ Φ = iprop(Φ (.inl ()) ∗ (bigSep Finset.univ fun j => Φ (.inr (.inl j))) ∗ bigSep Finset.univ fun j => Φ (.inr (.inr j))) := by
  rw [bigSep_univ_sum, bigSep_univ_sum, unit_sep]; rfl
theorem over_all {M : Type} [URA M] (Φ : Ck → sProp M) :
    bigSep Finset.univ Φ = iprop(Φ kBar ∗ Φ kW ∗ (bigSep Finset.univ fun j => Φ (kS j)) ∗ bigSep Finset.univ fun j => Φ (kR j)) := by
  rw [bigSep_univ_sum, unit_sep, over_own]; rfl

theorem over_cells {M : Type} [URA M] (Φ : GSem nD τ sig → sProp M) :
    bigSep ringCells Φ = bigSep Finset.univ fun c : Dev nD => bigSep Finset.univ fun k => Φ (kcell (c, k)) := by
  unfold ringCells; rw [bigSep_map, bigSep_univ_prod]; rfl

theorem over_toks : bigSep ringToks (fun x => (dutyTok ER x.1 x.2.1 x.2.2 : sProp 𝕄)) = bigSep Finset.univ fun c : Dev nD => toks (F := F) c := by
  unfold ringToks; rw [bigSep_map, bigSep_univ_prod]
  exact bigSep_congr fun c _ => by
    unfold toks; rw [bigSep_univ_sum, bigSep_univ_sum, bigSep_univ_sum, unit_sep]; rfl

theorem fund_all : BI.own (ER (initOf ringCells ringToks)) ⊢ (|==> bigSep Finset.univ (G m ρ) : sProp 𝕄) := by
  iintro HX
  imod (Rounds.fund ER (sched m ρ) ringCells ringToks) $$ HX with ⟨Hst, Hr, Hat, Htok⟩
  imodintro
  ihave Hst' := (Entails.of_eq (over_cells fun g => roundState ER (sched m ρ) g 0)) $$ Hst
  ihave Hat' := (Entails.of_eq (over_cells fun g => (atPos ER g 0 ∅ 0 : sProp 𝕄))) $$ Hat
  ihave Hr' := (Entails.of_eq (over_cells fun g => (reached ER g 0 : sProp 𝕄))) $$ Hr
  ihave Htok' := (Entails.of_eq over_toks) $$ Htok
  unfold G ats; simp only [bigSep_sep']
  isplitl [Hst']; · iexact Hst'
  isplitl [Hat']; · iexact Hat'
  isplitl [Hr']; · iexact Hr'
  iexact Htok'

theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [unscopedSems0_eq, over_all]
  unfold Pipeline.ownSems0
  rw [over_own]
  iintro ⟨Ho, HB⟩
  isplitl [HB]; · iexact HB
  iexact Ho

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => reached ER (kcell (c, k)) 0) ∗ ats (F := F) c ∗ toks (F := F) c) := by
  have hinv : iprop((bigSep Finset.univ fun k => semVal (kcell (c, k)) 0) ∗ bigSep Finset.univ fun k => roundState ER (sched m ρ) (kcell (c, k)) 0)
      ⊢ (|={Set.univ}=> bigSep Finset.univ fun k => iprop(∃ κ : ℕ, cellInv ER (sched m ρ) κ (kcell (c, k))) : sProp 𝕄) := by
    rw [← bigSep_sep']
    exact (bigSep_mono fun k _ => (Rounds.body_intro ER (sched m ρ) (kcell (c, k))).trans inv_alloc).trans (bigSep_fupd _ _)
  unfold G
  iintro ⟨Hos, Hus, Hst, Hat, Hr, Htok⟩
  ihave Hv := (sems0_eq (F := F) c) $$ [Hos Hus]
  · isplitl [Hos] <;> iassumption
  imod hinv $$ [Hv Hst] with Hinv
  · isplitl [Hv] <;> iassumption
  imodintro
  isplitl [Hinv]; · iexact Hinv
  isplitl [Hr]; · iexact Hr
  isplitl [Hat] <;> iassumption

/-! ## The tokens passed to those who pay -/

/-- A signal at its sender and at its receiver; -/
def sigEquiv : Dev nD × Fin 15 ≃ Dev nD × Fin 15 where
  toFun x := (fwd x.1 x.2, Fin.rev x.2)
  invFun x := (fwd x.1 x.2, Fin.rev x.2)
  left_inv x := Prod.ext (fwd_fwd_rev x.1 x.2) (Fin.rev_rev x.2)
  right_inv x := Prod.ext (fwd_fwd_rev x.1 x.2) (Fin.rev_rev x.2)

/-- a copy at its sender and at its receiver. -/
def arrEquiv : Dev nD × Fin 15 ≃ Dev nD × Fin 15 where
  toFun x := (fwd x.1 x.2, x.2)
  invFun x := (bwd x.1 x.2, x.2)
  left_inv x := Prod.ext (bwd_fwd x.1 x.2) rfl
  right_inv x := Prod.ext (fwd_bwd x.1 x.2) rfl

theorem around {M : Type} [URA M] (e : Dev nD × Fin 15 ≃ Dev nD × Fin 15) (Φ : Dev nD → Fin 15 → sProp M) :
    (bigSep Finset.univ fun c => bigSep Finset.univ fun r => Φ c r) = bigSep Finset.univ fun c => bigSep Finset.univ fun r => Φ (e (c, r)).1 (e (c, r)).2 := by
  rw [← bigSep_univ_prod (fun x : Dev nD × Fin 15 => Φ x.1 x.2), bigSep_univ_equiv e, bigSep_univ_prod]

theorem arr_around (c : Dev nD) (r : Fin 15) : rCell (fwd c r) (bwd (fwd c r) r) = arrCell c r := by rw [bwd_fwd]

theorem toks_around : (bigSep Finset.univ fun c : Dev nD => toks (F := F) c) ⊢ bigSep Finset.univ fun c : Dev nD => payToks (F := F) c := by
  unfold toks payToks
  simp only [bigSep_sep']
  rw [around sigEquiv fun c r => (dutyTok ER (barCell c) 0 r : sProp 𝕄), around arrEquiv fun c r => (dutyTok ER (rCell c (bwd c r)) 0 0 : sProp 𝕄)]
  simp only [sigEquiv, arrEquiv, Equiv.coe_fn_mk, arr_around]
  exact Entails.rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_intro (c : Dev nD) : iprop(ats (F := F) c ∗ payToks (F := F) c) ⊢ linear (F := F) c := by
  unfold ats payToks linear; rw [over_all]

theorem ghost_intro (K : Dev nD × Ck → ℕ) (c : Dev nD) : iprop(records m ρ K ∗ ats (F := F) c ∗ payToks (F := F) c) ⊢ G' m ρ c := by
  unfold G'
  iintro ⟨HR, H⟩
  iexists K
  isplitl [HR]; · iexact HR
  iapply (linear_intro c); iexact H

theorem regroup :
    (bigSep Finset.univ fun c : Dev nD => iprop((bigSep Finset.univ fun k => iprop(∃ κ : ℕ, cellInv ER (sched m ρ) κ (kcell (c, k))))
          ∗ (bigSep Finset.univ fun k => reached ER (kcell (c, k)) 0) ∗ ats (F := F) c ∗ toks (F := F) c) : sProp 𝕄)
      ⊢ bigSep Finset.univ (G' m ρ) := by
  rw [bigSep_sep', bigSep_sep', bigSep_sep', ← bigSep_univ_prod (fun ck : Dev nD × Ck => iprop(∃ κ : ℕ, cellInv ER (sched m ρ) κ (kcell ck))),
    ← bigSep_univ_prod (fun ck : Dev nD × Ck => (reached ER (kcell ck) 0 : sProp 𝕄))]
  iintro ⟨HI, #HR, Hat, Htok⟩
  ihave HK := (BI.bigSep_exists_pi Finset.univ (fun (ck : Dev nD × Ck) (κ : ℕ) => (cellInv ER (sched m ρ) κ (kcell ck) : sProp 𝕄))) $$ HI
  icases HK with ⟨%K, #HI⟩
  ihave Htk := (toks_around (F := F)) $$ Htok
  iapply (with_persistent (R := records m ρ K) fun c _ => ghost_intro m ρ K c)
  isplitr
  · unfold records; isplitl; · iexact HI
    iexact HR
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem cell_ne {s s' : SemLoc sig} (c d : Dev nD) (h : kindOf s ≠ kindOf s') : (((c : Thread nD τ), s) : GSem nD τ sig) ≠ ((d : Thread nD τ), s') :=
  fun e => h (congrArg (fun g : GSem nD τ sig => kindOf g.2) e)

theorem owedOn_apply (cell : Fin 15 → GSem nD τ sig) (n : ℕ) (g : GSem nD τ sig) :
    ∀ l : List (Fin 15), owedOn cell n l g () = (l.map fun r => if g = cell r then n else 0).sum
  | [] => rfl
  | r :: l => by
    rw [owedOn_cons, Pi.add_apply, Finsupp.add_apply, tallyAt_apply, owedOn_apply cell n g l, List.map_cons, List.sum_cons, Nat.add_comm]
    simp only [and_true]

theorem owedOn_all (cell : Fin 15 → GSem nD τ sig) (n : ℕ) (g : GSem nD τ sig) :
    owedOn cell n (List.finRange 15) g () = ∑ r, if g = cell r then n else 0 := by
  rw [owedOn_apply, ← List.ofFn_eq_map, List.sum_ofFn]

theorem bar_eq_iff {a b : Dev nD} : (barCell a = barCell b) ↔ (a = b) :=
  ⟨fun h => Fin.ext (congrArg (fun g : GSem nD τ sig => g.1.1.val) h), fun h => h ▸ rfl⟩
theorem arr_eq_iff {a b : Dev nD} {i j : Fin 16} : (rCell a i = rCell b j) ↔ (a = b ∧ i = j) :=
  ⟨fun h => ⟨Fin.ext (congrArg (fun g : GSem nD τ sig => g.1.1.val) h), by
    have h2 := congrArg (fun g : GSem nD τ sig => kindOf g.2) h
    dsimp only at h2
    rw [kind_recv, kind_recv] at h2
    exact Kind.recv.inj h2⟩, fun h => by rw [h.1, h.2]⟩

theorem owed_bar (d c : Dev nD) : O₀ d (barCell c) () = ∑ r, if c = fwd d r then 1 else 0 := by
  unfold O₀
  rw [Pi.add_apply, Finsupp.add_apply, owedOn_all, owedOn_all]
  simp only [bar_eq_iff]
  rw [Finset.sum_eq_zero fun r _ => if_neg (cell_ne c (fwd d r) (by rw [kind_bar, kind_recv]; exact Kind.noConfusion)), Nat.zero_add]

theorem owed_arr (d c : Dev nD) (j : Fin 16) : O₀ d (rCell c j) () = ∑ r, if c = fwd d r ∧ j = d then N else 0 := by
  unfold O₀
  rw [Pi.add_apply, Finsupp.add_apply, owedOn_all, owedOn_all]
  simp only [arr_eq_iff]
  rw [Finset.sum_eq_zero (f := fun r => if rCell c j = sigCell d r then 1 else 0) fun r _ => if_neg (cell_ne c (fwd d r) (by rw [kind_bar, kind_recv]; exact Kind.noConfusion)), Nat.add_zero]

theorem fwd_iff (c d : Dev nD) (r : Fin 15) : (c = fwd d r) ↔ (bwd c r = d) :=
  ⟨fun h => by rw [h, bwd_fwd], fun h => by rw [← h, fwd_bwd]⟩

theorem total_bar (c : Dev nD) : ∑ d, O₀ d (barCell c) () = 15 := by
  simp only [owed_bar, fwd_iff]
  rw [Finset.sum_comm]
  simp only [Finset.sum_ite_eq, Finset.mem_univ, if_true]
  decide

theorem total_arr (c : Dev nD) (s : Fin 15) : ∑ d, O₀ d (rCell c (bwd c s)) () = N := by
  simp only [owed_arr, fwd_iff]
  rw [Finset.sum_comm, Finset.sum_eq_single s]
  · rw [Finset.sum_eq_single (bwd c s)]
    · exact if_pos ⟨rfl, rfl⟩
    · exact fun d _ h => if_neg fun e => h e.1.symm
    · exact fun h => absurd (Finset.mem_univ _) h
  · exact fun r _ h => Finset.sum_eq_zero fun d _ => if_neg fun e => h (bwd_injective c (e.1.trans e.2.symm))
  · exact fun h => absurd (Finset.mem_univ _) h

theorem launch_at (g : GSem nD τ sig) (n : ℕ) (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem creds_own (c : Dev nD) :
    (bigSep Finset.univ fun k => (cred (tallyOn (kcell (c, k)) (launchCredit (Pipeline.owing O₀) 0 (kcell (c, k)))) : sProp 𝕄))
      ⊢ iprop(cred (tallyAt (barCell c) () 15) ∗ bigSep Finset.univ fun r => cred (tallyAt (rCell c (bwd c r)) () N)) := by
  have h := bigSep_congr (s := (Finset.univ : Finset (Fin 15))) fun s _ => congrArg (fun x => (cred x : sProp 𝕄)) (launch_at (rCell c (bwd c s)) N (total_arr c s))
  rw [over_all, launch_at (barCell c) 15 (total_bar c), ← h, split_bwd c fun j => (cred (tallyOn (rCell c j) (launchCredit (Pipeline.owing O₀) 0 (rCell c j))) : sProp 𝕄)]
  iintro ⟨HB, -, -, -, HR⟩
  isplitl [HB] <;> iassumption

theorem creds (c : Dev nD) :
    (Pipeline.launchCred O₀ c : sProp 𝕄) ⊢ iprop(cred (tallyAt (barCell c) () 15) ∗ bigSep Finset.univ fun r => cred (tallyAt (rCell c (bwd c r)) () N)) := by
  unfold Pipeline.launchCred
  refine (bigSep_subset (Finset.subset_univ (Finset.univ.map ⟨csem, csem_injective⟩))).trans ?_
  rw [bigSep_map]
  exact creds_own c

/-! ## The launch's side conditions -/

theorem begins_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(begins m ρ c ∗ emp) := by
  rw [Pipeline.unscopedRestP_none, unscopedRest0_eq]
  iintro ⟨Hw, Hlev, Hcr, -, HG⟩
  ihave Hc := (creds (F := F) c) $$ Hcr
  imodintro
  unfold begins G'
  isplitl
  · isplitl [HG]; · iexact HG
    isplitl [Hc]; · iexact Hc
    isplitl [Hlev]; · iexact Hlev
    iexact Hw
  · iempintro

theorem phi0_intro (c : Dev nD) :
    iprop(begins m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- What is read at the end beside the windows' arrays: the barrier semaphore and the weights. -/
def kept (c : Dev nD) : sProp 𝕄 := iprop(unscopedSems0 c ∗ own1 c main_arg1 (wt m ρ c))

theorem phi1_exit (c : Dev nD) :
    (dats m ρ 0 c).Φ (Fin.last cfg0.N) ⊢ iprop(kept m ρ c ∗ Pipeline.ownSems0 osem c ∗ Pipeline.scopedRest cfg0.spec c) := by
  rw [show (dats m ρ 0 c).Φ (Fin.last cfg0.N) = Φ₁ m ρ c from rfl, scopedRest0_eq]
  unfold kept Φ₁ scratch Pipeline.ownSems0
  rw [unscopedSems0_eq, over_own]

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem kept_read (c : Dev nD) (s' : Phys nD τ sig (Elt F)) :
    iprop(kept m ρ c ∗ emp ∗ SI s')
      ⊢ |={Set.univ}=> iprop(⌜s'.mem.mem ((c : Thread nD τ).loc main_arg1) = wt m ρ c ∧ ∀ sm : SemLoc sig, sm.isScoped .tc = false → s'.mem.sem ((c.tc : Thread nD τ), sm) = 0⌝ ∗ SI s') := by
  unfold kept own1
  iintro ⟨⟨Hu, Hw⟩, -, HSI⟩
  icombine HSI Hw gives %hv
  ihave %hs := (tcUnscoped_read c s') $$ [Hu HSI]
  · isplitl [Hu] <;> iassumption
  imodintro
  isplitr
  · ipureintro; exact ⟨funext fun i => hv i (Finset.mem_univ _), hs⟩
  iexact HSI

/-! ## The run -/

def finalA (c : Dev nD) (w : Fin cfg0.W) : Buf (Elt F) ((cfg0.win w).arr.view.loc (c : Thread nD τ)) := (dats m ρ 0 c).arrAt w cfg0.N

def Final : PUnit × MemSt nD τ sig (Elt F) → Prop := fun r =>
  (∀ c : Dev nD, (∀ w : Fin cfg0.W, r.2.mem ((cfg0.win w).arr.view.loc (c : Thread nD τ)) = finalA m ρ c w) ∧ r.2.mem ((c : Thread nD τ).loc main_arg1) = wt m ρ c)
    ∧ r.2.sem = fun _ => 0

set_option maxRecDepth 8000 in
/-- From any memory with the semaphores at zero, every fair execution of the program on sixteen devices ends, with the windows' arrays
at the computed contents, the weights as they were, and every semaphore at zero. -/
theorem run_main : θ_run defs (onTc (τ := τ) (main (F := F))) (s₀ m ρ) (Final m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := begins m ρ) (Y := kept m ρ) (Z := fun _ => iprop(emp))
    (hX := begins_intro m ρ) (hin := phi0_intro m ρ) (hout := phi1_exit m ρ)
    (QY := fun c s => s.mem ((c : Thread nD τ).loc main_arg1) = wt m ρ c ∧ ∀ sm : SemLoc sig, sm.isScoped .tc = false → s.sem ((c.tc : Thread nD τ), sm) = 0)
    (hY := kept_read m ρ)
    (hQ := fun _ h hs => ⟨fun c => ⟨fun w => (h c).1 w, (h c).2.2.1⟩, sem_eq_zero hs fun c => (h c).2.2.2⟩)

/-- The array of `x` after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.AllToAll

end
-- ==== Proof.Value.lean ====
/-
The result of the kernel over the extended reals: device `c` ends with rows `256 c` to `256 c + 255` of the activation of `x · w`.
-/
module

public import proofs.«01_k».proof.Proof.Launch
public import proofs.«01_k».proof.Proof.Gen.ReferenceIdeal.Run
public import Idealize.ShloMosaic.PureOps.Ideal.Laws
public import Idealize.ShloMosaic.Lib.MatmulPlain
public import Idealize.ShloMosaic.Lib.StackMember
public import Idealize.ShloMosaic.Lib.IdealHost
public import Idealize.ShloMosaic.Lib.Layout
public import Idealize.ShloMosaic.Lib.Pipeline.Value

@[expose] public section

noncomputable section

namespace Cert.KernelIdeal.AllToAll

open Cert.KernelIdeal Cert.KernelIdeal.Gen
open Idealize.ShloMosaic
open Idealize.ShloMosaic.TcCoe
open Idealize.ShloMosaic.ValueIdx
open Idealize.SL.Sem
open scoped BigOperators

/-! ## The windows are whole arrays -/

section Whole

variable {F : FTy → Type} [FloatOps F]
variable (m : (ℓ : Loc nD τ sig) → Buf (Elt F) ℓ) (ρ : Dev nD → PrngReg)

/-- What is staged is the device's block of `x`; -/
theorem xstg_eq (c : Dev nD) : xstg m ρ c = m ((c : Thread nD τ).loc main_arg0) :=
  Memref.read_access_unit_zero (Elt F) main_arg0
    (show (fun a => (win0_0.index (0 : Fin 1)) a * main_arg0.ty.shape.size a) = fun _ => 0 from funext fun a => by fin_cases a <;> decide)
    (fun a => by fin_cases a <;> decide) _

/-- what is written back is the result. -/
theorem finalA_out (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1
    (show (fun a => (win0_1.index (0 : Fin 1)) a * main_v1.ty.shape.size a) = fun _ => 0 from funext fun a => by fin_cases a <;> decide)
    (fun a => by fin_cases a <;> decide) _).symm.trans h

end Whole

/-! ## The activation -/

theorem exp_nonneg (x : EReal) : 0 ≤ Ideal.exp x := by
  induction x with
  | bot => exact le_refl _
  | top => exact le_top
  | coe r => exact EReal.coe_nonneg.mpr (Real.exp_pos r).le

/-- `y · logistic y` is `y / (1 + exp (-y))`, at the infinities too. -/
theorem silu (y : EReal) : y * Ideal.logistic y = Ideal.div y (1 + Ideal.exp (-y)) := by
  have h : (1 : EReal) + Ideal.exp (-y) ≠ 0 := by
    have h1 : (1 : EReal) ≤ 1 + Ideal.exp (-y) := le_add_of_nonneg_right (exp_nonneg _)
    exact fun h0 => absurd (h0 ▸ h1) (by norm_num)
  unfold Ideal.logistic Ideal.div
  rw [if_neg h, if_neg h, one_mul]

/-! ## The sum -/

/-- The blocks of columns of `x`; -/
theorem tiles_x : Layout.Tiles ⟨2, ![4096, 256]⟩ ⟨2, ![4096, 4096]⟩ 1 16 := by decide

/-- the blocks of rows of the result. -/
theorem tiles_out : Layout.Tiles ⟨2, ![256, 2048]⟩ ⟨2, ![4096, 2048]⟩ 0 16 := by decide

section Sums

variable (m : (ℓ : Loc nD τ sig) → Buf (Elt Ideal) ℓ) (ρ : Dev nD → PrngReg)

/-- One device's part of one entry. -/
def part (c j : Dev nD) (a : Fin 256) (b : Fin 2048) : EReal := ∑ k : Fin 256, (ablk m ρ c j (ix2 a k) : EReal) * wblk m ρ c j (ix2 k b)

theorem first_apply (A : FVec Ideal S256x256 .bf16) (B : FVec Ideal S256x2048 .bf16) (a : Fin 256) (b : Fin 2048) :
    (k0_pay4 (F := Ideal) A B (ix2 a b) : EReal) = ∑ k : Fin 256, (A (ix2 a k) : EReal) * B (ix2 k b) := by
  unfold k0_pay4
  refine (Ideal.matmul_plain_apply (M := 256) (K := 256) (N := 2048) none A B _ a b).trans ?_
  rw [show (constant S256x2048 .f32 0x00000000#32 : FVec Ideal S256x2048 .f32) (ix2 a b) = 0 from Ideal.ofBits_zero_f32, zero_add]

theorem add_apply (s : FVec Ideal S256x2048 .f32) (A : FVec Ideal S256x256 .bf16) (B : FVec Ideal S256x2048 .bf16) (a : Fin 256) (b : Fin 2048) :
    (k0_pay5 (F := Ideal) s A B (ix2 a b) : EReal) = s (ix2 a b) + ∑ k : Fin 256, (A (ix2 a k) : EReal) * B (ix2 k b) := by
  unfold k0_pay5
  rw [shapeCast_self]
  exact congrArg (s (ix2 a b) + ·) (first_apply A B a b)

theorem fold_apply (c : Dev nD) (a : Fin 256) (b : Fin 2048) : ∀ (l : List (Fin 15)) (s : S256x2048.Idx → Elt Ideal .f32),
    (l.foldl (fun s r => k0_pay5 (F := Ideal) s (ablk m ρ c (bwd c r)) (wblk m ρ c (bwd c r))) s (ix2 a b) : EReal)
      = s (ix2 a b) + (l.map fun r => part m ρ c (bwd c r) a b).sum
  | [], s => (add_zero _).symm
  | r :: l, s => by
    rw [List.foldl_cons, fold_apply c a b l, add_apply, List.map_cons, List.sum_cons, add_assoc]; rfl

/-- An entry of the sum is the sum of all devices' parts. -/
theorem acc_apply (c : Dev nD) (a : Fin 256) (b : Fin 2048) :
    (accAt m ρ c (List.finRange 15) (ix2 a b) : EReal) = ∑ j : Dev nD, part m ρ c j a b := by
  unfold accAt
  rw [fold_apply, first_apply, ← List.ofFn_eq_map, List.sum_ofFn, ← Finset.add_sum_erase Finset.univ (fun j => part m ρ c j a b) (Finset.mem_univ c), erase_bwd,
    Finset.sum_map]
  rfl

variable (X : Cert.ReferenceIdeal.S4096x4096.Idx → EReal) (W : S4096x2048.Idx → EReal)
variable (hx : ∀ c : Dev nD, m ((c : Thread nD τ).loc main_arg0) = Layout.block ⟨2, ![4096, 256]⟩ ⟨2, ![4096, 4096]⟩ 1 16 c X tiles_x)
variable (hw : ∀ c : Dev nD, m ((c : Thread nD τ).loc main_arg1) = W)

/-- Place `k` of device `j`'s 256 of the 4096. -/
def at16 (j : Fin 16) (k : Fin 256) : Fin 4096 := ⟨256 * j.val + k.val, by omega⟩

include hx in
theorem ablk_apply (c j : Dev nD) (a k : Fin 256) : ablk m ρ c j (ix2 a k) = X (ix2 (at16 c a) (at16 j k)) := by
  unfold ablk xb k0_pay1
  rw [shapeCast_self, shapeCast_self, xstg_eq, hx j]
  show X _ = X _
  congr 1
  funext d; apply Fin.ext
  match d with
  | ⟨0, _⟩ => rfl
  | ⟨1, _⟩ => show j.val * 256 + k.val = 256 * j.val + k.val; omega

include hw in
theorem wblk_apply (c j : Dev nD) (k : Fin 256) (b : Fin 2048) : wblk m ρ c j (ix2 k b) = W (ix2 (at16 j k) b) := by
  unfold wblk wb k0_pay3
  rw [shapeCast_self, show wt m ρ c = W from hw c]
  show W _ = W _
  congr 1
  funext d; apply Fin.ext
  match d with
  | ⟨0, _⟩ => rfl
  | ⟨1, _⟩ => rfl

/-- A sum over 4096 places in sixteen groups. -/
theorem sum_groups (f : Fin 4096 → EReal) : ∑ j : Fin 16, ∑ k : Fin 256, f (at16 j k) = ∑ n : Fin 4096, f n := by
  rw [← Fintype.sum_prod_type' (f := fun j k => f (at16 j k)), ← Equiv.sum_comp (finProdFinEquiv (m := 16) (n := 256)) f]
  refine Finset.sum_congr rfl fun x _ => congrArg f (Fin.ext ?_)
  show 256 * x.1.val + x.2.val = x.2.val + 256 * x.1.val
  omega

include hx hw in
/-- The sum on device `c` is the product of row `256 c + a` of `x` and column `b` of `w`. -/
theorem acc_eq (c : Dev nD) (a : Fin 256) (b : Fin 2048) :
    (accAt m ρ c (List.finRange 15) (ix2 a b) : EReal) = ∑ n : Fin 4096, X (ix2 (at16 c a) n) * W (ix2 n b) := by
  rw [acc_apply, ← sum_groups]
  refine Finset.sum_congr rfl fun j _ => Finset.sum_congr rfl fun k _ => ?_
  rw [ablk_apply m ρ X hx, wblk_apply m ρ W hw]

end Sums

/-! ## The reference -/

section Reference

open Cert.ReferenceIdeal (dot_S4096x4096_S4096x2048_S4096x2048_1_0_0_1_n_n)
open Cert.ReferenceIdeal.Facts₀ (bcast_S_S4096x2048)

variable (X : FVec Ideal Cert.ReferenceIdeal.S4096x4096 .f32) (W : FVec Ideal Cert.ReferenceIdeal.S4096x2048 .f32)

/-- The reference's result. -/
def refOut : FVec Ideal Cert.ReferenceIdeal.S4096x2048 .f32 :=
  Host.divf (Host.dotGeneral dot_S4096x4096_S4096x2048_S4096x2048_1_0_0_1_n_n none X W)
    (addf (broadcastInDim Cert.ReferenceIdeal.S4096x2048 ![] bcast_S_S4096x2048 (constant Cert.ReferenceIdeal.S_ .f32 0x3F800000#32))
      (Host.exp (Host.negf (Host.dotGeneral dot_S4096x4096_S4096x2048_S4096x2048_1_0_0_1_n_n none X W))))

theorem refOut_apply (r : Fin 4096) (b : Fin 2048) :
    refOut X W (ix2 r b) = Ideal.div (∑ n : Fin 4096, X (ix2 r n) * W (ix2 n b)) (1 + Ideal.exp (-∑ n : Fin 4096, X (ix2 r n) * W (ix2 n b))) := by
  have h := StackMember.dotGeneral_plain_apply (m := 4096) (k := 4096) (n := 2048) none X W r b
  rw [← h, ← Ideal.ofBits_one_f32]
  rfl

end Reference

section Result

variable (m : (ℓ : Loc nD τ sig) → Buf (Elt Ideal) ℓ) (ρ : Dev nD → PrngReg)
variable (X : Cert.ReferenceIdeal.S4096x4096.Idx → EReal) (W : S4096x2048.Idx → EReal)
variable (hx : ∀ c : Dev nD, m ((c : Thread nD τ).loc main_arg0) = Layout.block ⟨2, ![4096, 256]⟩ ⟨2, ![4096, 4096]⟩ 1 16 c X tiles_x)
variable (hw : ∀ c : Dev nD, m ((c : Thread nD τ).loc main_arg1) = W)

include hx hw in
/-- Device `c`'s result is block `c` of the reference's. -/
theorem out_eq (c : Dev nD) : outAt m ρ c = Layout.block ⟨2, ![256, 2048]⟩ ⟨2, ![4096, 2048]⟩ 0 16 c (refOut X W) tiles_out := by
  funext i
  obtain ⟨a, b, rfl⟩ : ∃ (a : Fin 256) (b : Fin 2048), i = ix2 a b := ⟨i 0, i 1, eq_ix2 i⟩
  have hi : tiles_out.idx c (ix2 a b) = ix2 (at16 c a) b := by
    funext d; apply Fin.ext
    match d with
    | ⟨0, _⟩ => show c.val * 256 + a.val = 256 * c.val + a.val; omega
    | ⟨1, _⟩ => rfl
  rw [Layout.block_apply, hi, refOut_apply, ← acc_eq m ρ X W hx hw c a b, ← silu]
  unfold outAt k0_pay22
  rw [shapeCast_self]
  rfl

end Result

end Cert.KernelIdeal.AllToAll

end
-- ==== Proof.Clip.lean ====
/-
The reference with the clip: where the product lies between -60 and 60 it is the reference without.
-/
module

public import proofs.«01_k».proof.Proof.Value
public import proofs.«01_k».proof.Proof.Gen.ClippedReferenceIdeal.Run
public import proofs.«01_k».proof.Proof.Gen.On_within_clip

@[expose] public section

noncomputable section

namespace Cert.KernelIdeal.AllToAll

open Idealize.ShloMosaic
open Cert.ClippedReferenceIdeal (S4096x4096 S4096x2048 S_ dot_S4096x4096_S4096x2048_S4096x2048_1_0_0_1_n_n)
open Cert.ClippedReferenceIdeal.Facts₀ (bcast_S_S4096x2048)

/-- A comparison that comes out true. -/
theorem le_of_bit {p : Prop} [Decidable p] (h : BitVec.ofBool (decide p) = 1#1) : p := by
  by_contra hp
  rw [decide_eq_false hp] at h
  exact absurd h (by decide)

/-- Two bits whose conjunction is set are set. -/
theorem bits_of_and : ∀ {a b : BitVec 1}, a &&& b = 1#1 → a = 1#1 ∧ b = 1#1 := by decide

/-- A clip changes nothing between its bounds. -/
theorem clip_eq {lo hi y : EReal} (h1 : lo ≤ y) (h2 : y ≤ hi) : min hi (max lo y) = y := by
  rw [max_eq_right h1, min_eq_right h2]

variable (X : FVec Ideal S4096x4096 .f32) (W : FVec Ideal S4096x2048 .f32)

/-- The clipped reference's result. -/
def clippedOut : FVec Ideal S4096x2048 .f32 :=
  Host.divf (Host.dotGeneral dot_S4096x4096_S4096x2048_S4096x2048_1_0_0_1_n_n none X W)
    (addf (broadcastInDim S4096x2048 ![] bcast_S_S4096x2048 (constant S_ .f32 0x3F800000#32))
      (Host.exp (Host.negf (minimumf (broadcastInDim S4096x2048 ![] bcast_S_S4096x2048 (id (constant S_ .f32 0x42700000#32)))
        (maximumf (broadcastInDim S4096x2048 ![] bcast_S_S4096x2048 (id (constant S_ .f32 0xC2700000#32)))
          (Host.dotGeneral dot_S4096x4096_S4096x2048_S4096x2048_1_0_0_1_n_n none X W))))))

/-- Where the product is within the bounds, the two references agree. -/
theorem clippedOut_eq (i : S4096x2048.Idx) (h : Cert.On_within_clip.fn X W i = 1#1) : clippedOut X W i = refOut X W i := by
  obtain ⟨h1, h2⟩ := bits_of_and h
  exact congrArg (fun t => Ideal.div (Host.dotGeneral dot_S4096x4096_S4096x2048_S4096x2048_1_0_0_1_n_n none X W i)
    (Ideal.ofBits .f32 0x3F800000#32 + Ideal.exp (-t))) (clip_eq (le_of_bit h1) (le_of_bit h2))

end Cert.KernelIdeal.AllToAll

end
-- ==== Proof.lean ====
/-
The claims: the frames of the kernel, at both readings of its floats, and of the two references; that the ideal kernel is the
kernel; and that over the extended reals the kernel computes what the reference without a clip does everywhere, and what
the reference with the clip does wherever the product lies within the clip's bounds.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedReferenceIdeal
public import proofs.«01_k».proof.Proof.Gen.ClippedReferenceIdeal.Run
public import proofs.«01_k».proof.Proof.Gen.On_within_clip
public import proofs.«01_k».proof.Proof.Launch
public import proofs.«01_k».proof.Proof.Value
public import proofs.«01_k».proof.Proof.Clip
public import Idealize.ShloMosaic.Lib.Pipeline.Quiescent
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel ends with its arguments unchanged and every counter at zero, whatever its floats are. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨((h.1 c).1 0).trans (Cert.KernelIdeal.AllToAll.finalA_x (F := F) m ρ c), (h.1 c).2⟩, h.2⟩)
    (Cert.KernelIdeal.AllToAll.run_main (F := F) m ρ)

/-- The kernel as printed and the ideal kernel have the same bodies, -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => ?_)
  match l with
  | 0 => funext ⟨t, s⟩; rfl

/-- so the same tables. -/
theorem tables_eq {F : FTy → Type} [FloatOps F] : Cert.Kernel.defs (F := F) = Cert.KernelIdeal.defs (F := F) :=
  congrArg (Pipeline.defs (Cert.KernelIdeal.pcfgs (F := F))) bodies_eq

/-- The kernel's frame, at the bits of its floats. -/
theorem frame_kernel : Cert.quiescent_Kernel := fun m ρ _ => by
  rw [tables_eq]
  exact frame_any (F := Bits) m ρ

/-- The kernel's frame over the extended reals. -/
theorem frame_ideal : Cert.quiescent_KernelIdeal := fun m ρ _ => frame_any (F := Ideal) m ρ

/-- The reference's frame. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- Each device's result is its block of rows of the reference's. -/
theorem algebraic : Cert.algebraic_KernelIdeal_ReferenceIdeal := fun m ρ m' ρ' _ hin =>
  ⟨Cert.KernelIdeal.AllToAll.refOut (m' ((Dev.tc (0 : Dev Cert.ReferenceIdeal.nD)).loc Cert.ReferenceIdeal.main_arg0))
      (m' ((Dev.tc (0 : Dev Cert.ReferenceIdeal.nD)).loc Cert.ReferenceIdeal.main_arg1)),
    (θ_run Cert.KernelIdeal.defs _ _).mono
      (fun _ h c => ⟨((h.1 c).1 1).trans ((Cert.KernelIdeal.AllToAll.finalA_out (F := Ideal) m ρ c).trans
          (Cert.KernelIdeal.AllToAll.out_eq m ρ _ _ (fun c => (hin c).1) (fun c => (hin c).2) c)),
        ((h.1 c).1 0).trans (Cert.KernelIdeal.AllToAll.finalA_x (F := Ideal) m ρ c), (h.1 c).2⟩)
      (Cert.KernelIdeal.AllToAll.run_main (F := Ideal) m ρ),
    (θ_run Cert.ReferenceIdeal.defs _ _).mono (fun _ h => h 0) (Cert.ReferenceIdeal.Value.run m' ρ')⟩

/-- The frame of the reference with the clip. -/
theorem frame_clipped : Cert.quiescent_ClippedReferenceIdeal := fun m ρ _ =>
  (θ_run Cert.ClippedReferenceIdeal.defs _ _).mono
    (fun r h => ⟨fun c => (h c).2, Idealize.ShloMosaic.sem_eq_zero_of_no_sems (by decide) r.2⟩)
    (Cert.ClippedReferenceIdeal.Value.run m ρ)

/-- Each device's result is its block of rows of the clipped reference's, wherever the product is within the clip's bounds. -/
theorem algebraic_clipped : Cert.algebraic_KernelIdeal_ClippedReferenceIdeal_on_within_clip := fun m ρ m' ρ' _ hin =>
  ⟨Cert.KernelIdeal.AllToAll.refOut (m' ((Dev.tc (0 : Dev Cert.ClippedReferenceIdeal.nD)).loc Cert.ClippedReferenceIdeal.main_arg0))
      (m' ((Dev.tc (0 : Dev Cert.ClippedReferenceIdeal.nD)).loc Cert.ClippedReferenceIdeal.main_arg1)),
    (θ_run Cert.KernelIdeal.defs _ _).mono
      (fun _ h c => ⟨fun i _ => congrFun (((h.1 c).1 1).trans ((Cert.KernelIdeal.AllToAll.finalA_out (F := Ideal) m ρ c).trans
          (Cert.KernelIdeal.AllToAll.out_eq m ρ _ _ (fun c => (hin c).1) (fun c => (hin c).2) c))) i,
        ((h.1 c).1 0).trans (Cert.KernelIdeal.AllToAll.finalA_x (F := Ideal) m ρ c), (h.1 c).2⟩)
      (Cert.KernelIdeal.AllToAll.run_main (F := Ideal) m ρ),
    (θ_run Cert.ClippedReferenceIdeal.defs _ _).mono
      (fun _ h => ⟨fun i hi => (congrFun (h 0).1 i).trans (Cert.KernelIdeal.AllToAll.clippedOut_eq _ _ i hi), (h 0).2⟩)
      (Cert.ClippedReferenceIdeal.Value.run m' ρ')⟩

theorem claim : Cert.Claim :=
  ⟨Cert.Kernel.Gen.facts, Cert.KernelIdeal.Gen.facts, Cert.ReferenceIdeal.Gen.facts, Cert.ClippedReferenceIdeal.Gen.facts,
    Cert.On_within_clip.Gen.facts, frame_kernel, frame_ideal, frame_reference, frame_clipped, trivial, algebraic, algebraic_clipped⟩

end Cert.Proof

end
